-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16)
      ∧ r.2.mem ((c.tc : Thread Cert.Mixer.nD Cert.Mixer.τ).loc Cert.Mixer.main_arg17) = m ((c.tc : Thread Cert.Mixer.nD Cert.Mixer.τ).loc Cert.Mixer.main_arg17))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16)
      ∧ r.2.mem ((c.tc : Thread Cert.MixerIdeal.nD Cert.MixerIdeal.τ).loc Cert.MixerIdeal.main_arg17) = m ((c.tc : Thread Cert.MixerIdeal.nD Cert.MixerIdeal.τ).loc Cert.MixerIdeal.main_arg17))
      ∧ r.2.sem = fun _ => 0)

def preserves_Kernel_KernelIdeal : Prop :=
  IdealRules.named_const.Statement Cert.KernelIdeal.κ "key_scale" .f32 0x3DB8AA3B#32 (((1 / 16) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Mixer_MixerIdeal : Prop :=
  True

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixer (hMixer := hMixer)
    ∧ quiescent_MixerIdeal (hMixerIdeal := hMixerIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixer_MixerIdeal
-- ==== Pre_finite.lean ====
abbrev S4x8192x1024 : Shape := ⟨3, ![4, 8192, 1024]⟩
abbrev S4x256x1024 : Shape := ⟨3, ![4, 256, 1024]⟩
abbrev S1x1024 : Shape := ⟨2, ![1, 1024]⟩
abbrev S1x1024x2560 : Shape := ⟨3, ![1, 1024, 2560]⟩
abbrev S1x1024x1024 : Shape := ⟨3, ![1, 1024, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_v14 : IVec S_ 1) (main_v15 : FVec F S1x1024x1024 .f32) (main_v16 : FVec F S1x1024x1024 .f32) : IVec S_ 1 :=
  let main_v17 : IVec S1x1024x1024 1 := cmpf .olt main_v15 main_v16
  let main_c_5 : IVec S_ 1 := constantI S_ 1 1#1
  let main_v18 : IVec S_ 1 := (fun x v => Host.reduce IntOp.andi x v reducesTo_S1x1024x1024_S_d0_1_2 h_S_) main_v17 main_c_5
  let main_v19 : IVec S_ 1 := andi main_v14 main_v18
  main_v19

def fn {F : FTy → Type} [FloatOps F] (main_arg0 : FVec F S4x8192x1024 .f32) (main_arg1 : FVec F S4x256x1024 .f32) (main_arg2 : FVec F S1x1024 .f32) (main_arg3 : FVec F S1x1024x2560 .f32) (main_arg4 : FVec F S1x1024x1024 .f32) (main_arg5 : FVec F S1x1024 .f32) (main_arg6 : FVec F S1x1024 .f32) (main_arg7 : FVec F S1024x1024 .bf16) (main_arg8 : FVec F S1x1024x1024 .f32) (main_arg9 : FVec F S1x1024x1024 .f32) (main_arg10 : FVec F S1024x1024 .bf16) (main_arg11 : FVec F S1x1024 .f32) (main_arg12 : FVec F S1024x2816 .bf16) (main_arg13 : FVec F S1024x2816 .bf16) (main_arg14 : FVec F S2816x1024 .bf16) (main_arg15 : FVec F S1024 .f32) : IVec S_ 1 :=
  let main_v0 : FVec F S1x1024 .f32 := Host.absf main_arg5
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x1024 .f32 := (extf .f32 · bitsLt_bf16_f32) main_arg7
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S1x1024 .f32 := Host.absf main_arg6
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1x1024x1024 .f32 := Host.absf main_arg8
  let main_cst_4 : FVec F S_ .f32 := constant S_ .f32 0x7F800000#32
  let main_v16 : FVec F S1x1024x1024 .f32 := broadcastInDim S1x1024x1024 ![] bcast_S_S1x1024x1024 main_cst_4
  fn_part1 (F := F) main_v14 main_v15 main_v16
-- ==== Kernel.lean ====
abbrev S4x8192x1024 : Shape := ⟨3, ![4, 8192, 1024]⟩
abbrev S4x256x1024 : Shape := ⟨3, ![4, 256, 1024]⟩
abbrev S1x1024 : Shape := ⟨2, ![1, 1024]⟩
abbrev S1x1024x2560 : Shape := ⟨3, ![1, 1024, 2560]⟩
abbrev S1x1024x1024 : Shape := ⟨3, ![1, 1024, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S1024x2560 : Shape := ⟨2, ![1024, 2560]⟩
abbrev S1024x1 : Shape := ⟨2, ![1024, 1]⟩
abbrev S1x256x1024 : Shape := ⟨3, ![1, 256, 1024]⟩
abbrev S256x2560 : Shape := ⟨2, ![256, 2560]⟩
abbrev S256x1 : Shape := ⟨2, ![256, 1]⟩
abbrev S256x1024 : Shape := ⟨2, ![256, 1024]⟩
abbrev S256 : Shape := ⟨1, ![256]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 34
  | .vmem => 35
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S1x1024, .f32⟩
  | .hbm, ⟨3, _⟩ => ⟨S1x1024x2560, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1x1024x1024, .f32⟩
  | .hbm, ⟨9, _⟩ => ⟨S1x1024x1024, .f32⟩
  | .hbm, ⟨10, _⟩ => ⟨S1024x1024, .bf16⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x2560, .f32⟩
  | .hbm, ⟨21, _⟩ => ⟨S1024, .f32⟩
  | .hbm, ⟨22, _⟩ => ⟨S1024x1, .f32⟩
  | .hbm, ⟨23, _⟩ => ⟨S1024x1024, .f32⟩
  | .hbm, ⟨24, _⟩ => ⟨S4x256x1024, .bf16⟩
  | .hbm, ⟨25, _⟩ => ⟨S4x256x1024, .bf16⟩
  | .hbm, ⟨26, _⟩ => ⟨S1024x2560, .bf16⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S256x2560, .f32⟩
  | .local _ .vmem, ⟨6, _⟩ => ⟨S256x2560, .f32⟩
  | .local _ .vmem, ⟨7, _⟩ => ⟨S256x1, .f32⟩
  | .local _ .vmem, ⟨8, _⟩ => ⟨S256x1, .f32⟩
  | .local _ .vmem, ⟨9, _⟩ => ⟨S256x1024, .f32⟩
  | .local _ .vmem, ⟨10, _⟩ => ⟨S256x1024, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S256x2560, .bf16⟩
  | .local _ .vmem, ⟨16, _⟩ => ⟨S256x2560, .bf16⟩
  | .local _ .vmem, ⟨17, _⟩ => ⟨S256x1024, .bf16⟩
  | .local _ .vmem, ⟨18, _⟩ => ⟨S256x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x1024, .f32⟩
  | .local _ .vmem, ⟨26, _⟩ => ⟨S1024x1024, .bf16⟩
  | .local _ .vmem, ⟨27, _⟩ => ⟨S1024x1024, .bf16⟩
  | .local _ .vmem, ⟨28, _⟩ => ⟨S1x1024, .f32⟩
  | .local _ .vmem, ⟨29, _⟩ => ⟨S1024x2816, .bf16⟩
  | .local _ .vmem, ⟨30, _⟩ => ⟨S1024x2816, .bf16⟩
  | .local _ .vmem, ⟨31, _⟩ => ⟨S2816x1024, .bf16⟩
  | .local _ .vmem, ⟨32, _⟩ => ⟨S1x1024, .f32⟩
  | .local _ .vmem, ⟨33, _⟩ => ⟨S1x1024x1024, .f32⟩
  | .local _ .vmem, ⟨34, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev main_v8_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg11_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem11_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x2816 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024x2816 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S2816x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1024x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]
-- ==== KernelIdeal.lean ====
variable {F : FTy → Type} [FloatOps F] [Named F]
def κ : String → Option EReal := fun
  | "key_scale" => some (((1 / 16) * (Real.log 2)⁻¹ : ℝ) : EReal)
  | _ => none
-- ==== ReferenceIdeal.lean ====
abbrev S4x8192x1024 : Shape := ⟨3, ![4, 8192, 1024]⟩
abbrev S4x256x1024 : Shape := ⟨3, ![4, 256, 1024]⟩
abbrev S1x1024 : Shape := ⟨2, ![1, 1024]⟩
abbrev S1x1024x2560 : Shape := ⟨3, ![1, 1024, 2560]⟩
abbrev S1x1024x1024 : Shape := ⟨3, ![1, 1024, 1024]⟩
abbrev S1024x1024 : Shape := ⟨2, ![1024, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x256 : Shape := ⟨2, ![4, 256]⟩
abbrev S4x256x1 : Shape := ⟨3, ![4, 256, 1]⟩
abbrev S4x8192x4x256 : Shape := ⟨4, ![4, 8192, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩
abbrev S4x8192x2816 : Shape := ⟨3, ![4, 8192, 2816]⟩

abbrev nBuf : Space → Nat
  | .hbm => 133
  | .vmem => 0
  | .smem => 0
  | _ => 0

abbrev hbmTy0_0 (i : Nat) : BufTy := match i % 128 with
  | 0 => ⟨S4x8192x1024, .f32⟩
  | 1 => ⟨S4x256x1024, .f32⟩
  | 2 => ⟨S1x1024, .f32⟩
  | 3 => ⟨S1x1024x2560, .f32⟩
  | 4 => ⟨S1x1024x1024, .f32⟩
  | 5 => ⟨S1x1024, .f32⟩
  | 6 => ⟨S1x1024, .f32⟩
  | 7 => ⟨S1024x1024, .bf16⟩
  | 8 => ⟨S1x1024x1024, .f32⟩
  | 9 => ⟨S1x1024x1024, .f32⟩
  | 10 => ⟨S1024x1024, .bf16⟩
  | 11 => ⟨S1x1024, .f32⟩
  | 12 => ⟨S1024x2816, .bf16⟩
  | 13 => ⟨S1024x2816, .bf16⟩
  | 14 => ⟨S2816x1024, .bf16⟩
  | 15 => ⟨S1024, .f32⟩
  | 16 => ⟨S1024x1024, .f32⟩
  | 17 => ⟨S1024x1024, .f32⟩
  | 18 => ⟨S1024x2816, .f32⟩
  | 19 => ⟨S1024x2816, .f32⟩
  | 20 => ⟨S2816x1024, .f32⟩
  | 21 => ⟨S1024, .f32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S1024, .f32⟩
  | 39 => ⟨S4x256x1024, .f32⟩
  | 40 => ⟨S_, .f32⟩
  | 41 => ⟨S4x256, .f32⟩
  | 42 => ⟨S4x256x1, .f32⟩
  | 43 => ⟨S_, .f32⟩
  | 44 => ⟨S4x256x1, .f32⟩
  | 45 => ⟨S4x256x1, .f32⟩
  | 46 => ⟨S_, .f32⟩
  | 47 => ⟨S4x256x1, .f32⟩
  | 48 => ⟨S4x256x1, .f32⟩
  | 49 => ⟨S4x256x1, .f32⟩
  | 50 => ⟨S4x256x1024, .f32⟩
  | 51 => ⟨S4x256x1024, .f32⟩
  | 52 => ⟨S1x1x1024, .f32⟩
  | 53 => ⟨S4x256x1024, .f32⟩
  | 54 => ⟨S4x256x1024, .f32⟩
  | 55 => ⟨S4x8192x1024, .f32⟩
  | 56 => ⟨S4x8192x4x256, .f32⟩
  | 57 => ⟨S1024x1024, .f32⟩
  | 58 => ⟨S4x256x1024, .f32⟩
  | 59 => ⟨S4x256x4x256, .f32⟩
  | 60 => ⟨S1024x1024, .f32⟩
  | 61 => ⟨S4x256x1024, .f32⟩
  | 62 => ⟨S4x256x4x256, .f32⟩
  | 63 => ⟨S4x4x8192x256, .f32⟩
  | 64 => ⟨S_, .f32⟩
  | 65 => ⟨S4x4x8192x256, .f32⟩
  | 66 => ⟨S4x4x8192x256, .f32⟩
  | 67 => ⟨S_, .f32⟩
  | 68 => ⟨S4x4x8192, .f32⟩
  | 69 => ⟨S_, .f32⟩
  | 70 => ⟨S4x4x8192, .f32⟩
  | 71 => ⟨S4x4x8192, .f32⟩
  | 72 => ⟨S4x4x8192x1, .f32⟩
  | 73 => ⟨S4x4x8192x256, .f32⟩
  | 74 => ⟨S4x4x8192x256, .f32⟩
  | 75 => ⟨S4x4x8192x256, .f32⟩
  | 76 => ⟨S_, .f32⟩
  | 77 => ⟨S4x4x8192, .f32⟩
  | 78 => ⟨S4x4x8192x1, .f32⟩
  | 79 => ⟨S4x4x8192x256, .f32⟩
  | 80 => ⟨S4x4x8192x256, .f32⟩
  | 81 => ⟨S4x4x256x8192, .f32⟩
  | 82 => ⟨S4x8192x4x256, .f32⟩
  | 83 => ⟨S4x8192x1024, .f32⟩
  | 84 => ⟨S4x8192x1024, .f32⟩
  | 85 => ⟨S4x8192x1024, .f32⟩
  | 86 => ⟨S1024, .f32⟩
  | 87 => ⟨S4x8192x1024, .f32⟩
  | 88 => ⟨S_, .f32⟩
  | 89 => ⟨S4x8192, .f32⟩
  | 90 => ⟨S4x8192x1, .f32⟩
  | 91 => ⟨S_, .f32⟩
  | 92 => ⟨S4x8192x1, .f32⟩
  | 93 => ⟨S4x8192x1, .f32⟩
  | 94 => ⟨S_, .f32⟩
  | 95 => ⟨S4x8192x1, .f32⟩
  | 96 => ⟨S4x8192x1, .f32⟩
  | 97 => ⟨S4x8192x1, .f32⟩
  | 98 => ⟨S4x8192x1024, .f32⟩
  | 99 => ⟨S4x8192x1024, .f32⟩
  | 100 => ⟨S1x1x1024, .f32⟩
  | 101 => ⟨S4x8192x1024, .f32⟩
  | 102 => ⟨S4x8192x1024, .f32⟩
  | 103 => ⟨S4x8192x2816, .f32⟩
  | 104 => ⟨S4x8192x2816, .f32⟩
  | 105 => ⟨S4x8192x2816, .f32⟩
  | 106 => ⟨S_, .f32⟩
  | 107 => ⟨S4x8192x2816, .f32⟩
  | 108 => ⟨S4x8192x2816, .f32⟩
  | 109 => ⟨S_, .f32⟩
  | 110 => ⟨S4x8192x2816, .f32⟩
  | 111 => ⟨S4x8192x2816, .f32⟩
  | 112 => ⟨S4x8192x2816, .f32⟩
  | 113 => ⟨S4x8192x2816, .f32⟩
  | 114 => ⟨S4x8192x2816, .f32⟩
  | 115 => ⟨S4x8192x1024, .f32⟩
  | 116 => ⟨S4x8192x1024, .f32⟩
  | 117 => ⟨S4x8192x1024, .f32⟩
  | 118 => ⟨S_, .f32⟩
  | 119 => ⟨S4x8192, .f32⟩
  | 120 => ⟨S4x8192x1, .f32⟩
  | 121 => ⟨S_, .f32⟩
  | 122 => ⟨S4x8192x1, .f32⟩
  | 123 => ⟨S4x8192x1, .f32⟩
  | 124 => ⟨S_, .f32⟩
  | 125 => ⟨S4x8192x1, .f32⟩
  | 126 => ⟨S4x8192x1, .f32⟩
  | 127 => ⟨S4x8192x1, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S1x1x1024, .f32⟩
  | 3 => ⟨S4x8192x1024, .f32⟩
  | 4 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call0_v0 : Ref sig .tc := ⟨.hbm, 104, rfl⟩
abbrev main_call0_v1 : Ref sig .tc := ⟨.hbm, 105, rfl⟩
abbrev main_call0_cst : Ref sig .tc := ⟨.hbm, 106, rfl⟩
abbrev main_call0_v2 : Ref sig .tc := ⟨.hbm, 107, rfl⟩
abbrev main_call0_v3 : Ref sig .tc := ⟨.hbm, 108, rfl⟩
abbrev main_call0_cst_0 : Ref sig .tc := ⟨.hbm, 109, rfl⟩
abbrev main_call0_v4 : Ref sig .tc := ⟨.hbm, 110, rfl⟩
abbrev main_call0_v5 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_12 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_cst_14 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Mixer.lean ====
abbrev S4x8192x1024 : Shape := ⟨3, ![4, 8192, 1024]⟩
abbrev S1024x2560 : Shape := ⟨2, ![1024, 2560]⟩
abbrev S1x8x257 : Shape := ⟨3, ![1, 8, 257]⟩
abbrev S1x4x512 : Shape := ⟨3, ![1, 4, 512]⟩
abbrev S1x512 : Shape := ⟨2, ![1, 512]⟩
abbrev S1x8x64x64 : Shape := ⟨4, ![1, 8, 64, 64]⟩
abbrev S1024x1024 : Shape := ⟨2, ![1024, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S640 : Shape := ⟨1, ![640]⟩
abbrev S1x1x640 : Shape := ⟨3, ![1, 1, 640]⟩
abbrev S8x257 : Shape := ⟨2, ![8, 257]⟩
abbrev S_ : Shape := ⟨0, ![]⟩
abbrev S8x1 : Shape := ⟨2, ![8, 1]⟩
abbrev S8x447 : Shape := ⟨2, ![8, 447]⟩
abbrev S8x256 : Shape := ⟨2, ![8, 256]⟩
abbrev S8x0 : Shape := ⟨2, ![8, 0]⟩
abbrev S8x703 : Shape := ⟨2, ![8, 703]⟩
abbrev S8x768 : Shape := ⟨2, ![8, 768]⟩
abbrev S1x8x1x768 : Shape := ⟨4, ![1, 8, 1, 768]⟩
abbrev S1x8x64x768 : Shape := ⟨4, ![1, 8, 64, 768]⟩
abbrev S8x49152 : Shape := ⟨2, ![8, 49152]⟩
abbrev S8x49088 : Shape := ⟨2, ![8, 49088]⟩
abbrev S8x64x767 : Shape := ⟨3, ![8, 64, 767]⟩
abbrev S8x64x640 : Shape := ⟨3, ![8, 64, 640]⟩
abbrev S8x1x1 : Shape := ⟨3, ![8, 1, 1]⟩
abbrev S8x511 : Shape := ⟨2, ![8, 511]⟩
abbrev S8x192 : Shape := ⟨2, ![8, 192]⟩
abbrev S8x1x64x640 : Shape := ⟨4, ![8, 1, 64, 640]⟩
abbrev S8x2x64x640 : Shape := ⟨4, ![8, 2, 64, 640]⟩
abbrev S4x512 : Shape := ⟨2, ![4, 512]⟩
abbrev S512 : Shape := ⟨1, ![512]⟩
abbrev S8x64x64 : Shape := ⟨3, ![8, 64, 64]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩
abbrev S1x256x256 : Shape := ⟨3, ![1, 256, 256]⟩
abbrev S2x256x256 : Shape := ⟨3, ![2, 256, 256]⟩
abbrev S1024x2816 : Shape := ⟨2, ![1024, 2816]⟩
abbrev S2816x1024 : Shape := ⟨2, ![2816, 1024]⟩
abbrev S32x1024 : Shape := ⟨2, ![32, 1024]⟩
abbrev S32x2816 : Shape := ⟨2, ![32, 2816]⟩
abbrev S128x1024 : Shape := ⟨2, ![128, 1024]⟩
abbrev S1536x1024 : Shape := ⟨2, ![1536, 1024]⟩
abbrev S1024x512 : Shape := ⟨2, ![1024, 512]⟩
abbrev S1032x512 : Shape := ⟨2, ![1032, 512]⟩
abbrev S8x512 : Shape := ⟨2, ![8, 512]⟩
abbrev S1024 : Shape := ⟨1, ![1024]⟩
abbrev S1024x1 : Shape := ⟨2, ![1024, 1]⟩
abbrev S128x512 : Shape := ⟨2, ![128, 512]⟩
abbrev S1024x256 : Shape := ⟨2, ![1024, 256]⟩
abbrev S1024x128 : Shape := ⟨2, ![1024, 128]⟩
abbrev S16x8x512 : Shape := ⟨3, ![16, 8, 512]⟩
abbrev S1x8x512 : Shape := ⟨3, ![1, 8, 512]⟩
abbrev S128 : Shape := ⟨1, ![128]⟩
abbrev S128x1 : Shape := ⟨2, ![128, 1]⟩
abbrev S1x128 : Shape := ⟨2, ![1, 128]⟩
abbrev S256x128 : Shape := ⟨2, ![256, 128]⟩
abbrev S512x256 : Shape := ⟨2, ![512, 256]⟩
abbrev S768x256 : Shape := ⟨2, ![768, 256]⟩
abbrev S512x768 : Shape := ⟨2, ![512, 768]⟩
abbrev S64x128 : Shape := ⟨2, ![64, 128]⟩
abbrev S1x1x64x128 : Shape := ⟨4, ![1, 1, 64, 128]⟩
abbrev S64x640 : Shape := ⟨2, ![64, 640]⟩
abbrev S64 : Shape := ⟨1, ![64]⟩
abbrev S64x1 : Shape := ⟨2, ![64, 1]⟩
abbrev S64x768 : Shape := ⟨2, ![64, 768]⟩
abbrev S512x128 : Shape := ⟨2, ![512, 128]⟩
abbrev S512x1024 : Shape := ⟨2, ![512, 1024]⟩

abbrev nBuf : Space → Nat
  | .hbm => 273
  | .vmem => 51
  | .smem => 0
  | _ => 0

abbrev hbmTy0_0 (i : Nat) : BufTy := match i % 128 with
  | 0 => ⟨S4x8192x1024, .f32⟩
  | 1 => ⟨S1024x2560, .bf16⟩
  | 2 => ⟨S1x8x257, .f32⟩
  | 3 => ⟨S1x4x512, .f32⟩
  | 4 => ⟨S1x512, .f32⟩
  | 5 => ⟨S1x8x64x64, .f32⟩
  | 6 => ⟨S1x512, .f32⟩
  | 7 => ⟨S1x8x64x64, .f32⟩
  | 8 => ⟨S1x512, .f32⟩
  | 9 => ⟨S1x512, .f32⟩
  | 10 => ⟨S1x512, .f32⟩
  | 11 => ⟨S1x512, .f32⟩
  | 12 => ⟨S1024x1024, .bf16⟩
  | 13 => ⟨S1x1024x1024, .f32⟩
  | 14 => ⟨S1x1024x1024, .f32⟩
  | 15 => ⟨S1x1024x2816, .f32⟩
  | 16 => ⟨S1x1024x2816, .f32⟩
  | 17 => ⟨S1x2816x1024, .f32⟩
  | 18 => ⟨S640, .i1⟩
  | 19 => ⟨S1x1x640, .i1⟩
  | 20 => ⟨S640, .i1⟩
  | 21 => ⟨S1x1x640, .i1⟩
  | 22 => ⟨S8x257, .f32⟩
  | 23 => ⟨S_, .f32⟩
  | 24 => ⟨S8x257, .f32⟩
  | 25 => ⟨S8x257, .f32⟩
  | 26 => ⟨S8x1, .f32⟩
  | 27 => ⟨S8x447, .f32⟩
  | 28 => ⟨S8x256, .f32⟩
  | 29 => ⟨S8x256, .f32⟩
  | 30 => ⟨S8x1, .f32⟩
  | 31 => ⟨S8x0, .f32⟩
  | 32 => ⟨S8x703, .f32⟩
  | 33 => ⟨S_, .i32⟩
  | 34 => ⟨S_, .f32⟩
  | 35 => ⟨S8x768, .f32⟩
  | 36 => ⟨S1x8x1x768, .f32⟩
  | 37 => ⟨S1x8x64x768, .f32⟩
  | 38 => ⟨S8x49152, .f32⟩
  | 39 => ⟨S8x49088, .f32⟩
  | 40 => ⟨S8x64x767, .f32⟩
  | 41 => ⟨S8x64x640, .f32⟩
  | 42 => ⟨S8x1, .f32⟩
  | 43 => ⟨S8x1x1, .f32⟩
  | 44 => ⟨S8x64x640, .f32⟩
  | 45 => ⟨S8x64x640, .f32⟩
  | 46 => ⟨S_, .f32⟩
  | 47 => ⟨S_, .f32⟩
  | 48 => ⟨S8x64x640, .i1⟩
  | 49 => ⟨S8x64x640, .f32⟩
  | 50 => ⟨S8x64x640, .f32⟩
  | 51 => ⟨S8x1, .f32⟩
  | 52 => ⟨S8x511, .f32⟩
  | 53 => ⟨S8x192, .f32⟩
  | 54 => ⟨S8x192, .f32⟩
  | 55 => ⟨S8x1, .f32⟩
  | 56 => ⟨S8x0, .f32⟩
  | 57 => ⟨S8x703, .f32⟩
  | 58 => ⟨S_, .i32⟩
  | 59 => ⟨S_, .f32⟩
  | 60 => ⟨S8x768, .f32⟩
  | 61 => ⟨S1x8x1x768, .f32⟩
  | 62 => ⟨S1x8x64x768, .f32⟩
  | 63 => ⟨S8x49152, .f32⟩
  | 64 => ⟨S8x49088, .f32⟩
  | 65 => ⟨S8x64x767, .f32⟩
  | 66 => ⟨S8x64x640, .f32⟩
  | 67 => ⟨S8x1, .f32⟩
  | 68 => ⟨S8x1x1, .f32⟩
  | 69 => ⟨S8x64x640, .f32⟩
  | 70 => ⟨S8x64x640, .f32⟩
  | 71 => ⟨S_, .f32⟩
  | 72 => ⟨S_, .f32⟩
  | 73 => ⟨S8x64x640, .i1⟩
  | 74 => ⟨S8x64x640, .f32⟩
  | 75 => ⟨S8x64x640, .f32⟩
  | 76 => ⟨S8x1x64x640, .f32⟩
  | 77 => ⟨S8x1x64x640, .f32⟩
  | 78 => ⟨S8x2x64x640, .f32⟩
  | 79 => ⟨S4x512, .f32⟩
  | 80 => ⟨S512, .f32⟩
  | 81 => ⟨S1x512, .f32⟩
  | 82 => ⟨S8x64x64, .f32⟩
  | 83 => ⟨S_, .f32⟩
  | 84 => ⟨S8x64x64, .f32⟩
  | 85 => ⟨S8x64x64, .f32⟩
  | 86 => ⟨S1x64x64, .f32⟩
  | 87 => ⟨S64x64, .f32⟩
  | 88 => ⟨S_, .f32⟩
  | 89 => ⟨S64x64, .f32⟩
  | 90 => ⟨S_, .f32⟩
  | 91 => ⟨S64x64, .f32⟩
  | 92 => ⟨S_, .f32⟩
  | 93 => ⟨S64x64, .f32⟩
  | 94 => ⟨S64x256, .f32⟩
  | 95 => ⟨S_, .f32⟩
  | 96 => ⟨S64x64, .f32⟩
  | 97 => ⟨S1x64x64, .f32⟩
  | 98 => ⟨S64x64, .f32⟩
  | 99 => ⟨S_, .f32⟩
  | 100 => ⟨S64x64, .f32⟩
  | 101 => ⟨S_, .f32⟩
  | 102 => ⟨S64x64, .f32⟩
  | 103 => ⟨S64x256, .f32⟩
  | 104 => ⟨S_, .f32⟩
  | 105 => ⟨S64x64, .f32⟩
  | 106 => ⟨S_, .f32⟩
  | 107 => ⟨S64x64, .f32⟩
  | 108 => ⟨S1x64x64, .f32⟩
  | 109 => ⟨S64x64, .f32⟩
  | 110 => ⟨S_, .f32⟩
  | 111 => ⟨S64x64, .f32⟩
  | 112 => ⟨S64x256, .f32⟩
  | 113 => ⟨S_, .f32⟩
  | 114 => ⟨S64x64, .f32⟩
  | 115 => ⟨S_, .f32⟩
  | 116 => ⟨S64x64, .f32⟩
  | 117 => ⟨S_, .f32⟩
  | 118 => ⟨S64x64, .f32⟩
  | 119 => ⟨S1x64x64, .f32⟩
  | 120 => ⟨S64x64, .f32⟩
  | 121 => ⟨S64x256, .f32⟩
  | 122 => ⟨S256x256, .f32⟩
  | 123 => ⟨S1x64x64, .f32⟩
  | 124 => ⟨S64x64, .f32⟩
  | 125 => ⟨S_, .f32⟩
  | 126 => ⟨S64x64, .f32⟩
  | 127 => ⟨S_, .f32⟩
  | _ => ⟨S4x8192x1024, .f32⟩

abbrev hbmTy0_1 (i : Nat) : BufTy := match i % 128 with
  | 0 => ⟨S64x64, .f32⟩
  | 1 => ⟨S_, .f32⟩
  | 2 => ⟨S64x64, .f32⟩
  | 3 => ⟨S64x256, .f32⟩
  | 4 => ⟨S_, .f32⟩
  | 5 => ⟨S64x64, .f32⟩
  | 6 => ⟨S1x64x64, .f32⟩
  | 7 => ⟨S64x64, .f32⟩
  | 8 => ⟨S_, .f32⟩
  | 9 => ⟨S64x64, .f32⟩
  | 10 => ⟨S_, .f32⟩
  | 11 => ⟨S64x64, .f32⟩
  | 12 => ⟨S64x256, .f32⟩
  | 13 => ⟨S_, .f32⟩
  | 14 => ⟨S64x64, .f32⟩
  | 15 => ⟨S_, .f32⟩
  | 16 => ⟨S64x64, .f32⟩
  | 17 => ⟨S1x64x64, .f32⟩
  | 18 => ⟨S64x64, .f32⟩
  | 19 => ⟨S_, .f32⟩
  | 20 => ⟨S64x64, .f32⟩
  | 21 => ⟨S64x256, .f32⟩
  | 22 => ⟨S_, .f32⟩
  | 23 => ⟨S64x64, .f32⟩
  | 24 => ⟨S_, .f32⟩
  | 25 => ⟨S64x64, .f32⟩
  | 26 => ⟨S_, .f32⟩
  | 27 => ⟨S64x64, .f32⟩
  | 28 => ⟨S1x64x64, .f32⟩
  | 29 => ⟨S64x64, .f32⟩
  | 30 => ⟨S64x256, .f32⟩
  | 31 => ⟨S256x256, .f32⟩
  | 32 => ⟨S1x256x256, .f32⟩
  | 33 => ⟨S1x256x256, .f32⟩
  | 34 => ⟨S2x256x256, .f32⟩
  | 35 => ⟨S2x256x256, .bf16⟩
  | 36 => ⟨S512, .f32⟩
  | 37 => ⟨S_, .f32⟩
  | 38 => ⟨S512, .f32⟩
  | 39 => ⟨S512, .f32⟩
  | 40 => ⟨S1x512, .f32⟩
  | 41 => ⟨S8x64x64, .f32⟩
  | 42 => ⟨S_, .f32⟩
  | 43 => ⟨S8x64x64, .f32⟩
  | 44 => ⟨S8x64x64, .f32⟩
  | 45 => ⟨S1x64x64, .f32⟩
  | 46 => ⟨S64x64, .f32⟩
  | 47 => ⟨S_, .f32⟩
  | 48 => ⟨S64x64, .f32⟩
  | 49 => ⟨S_, .f32⟩
  | 50 => ⟨S64x64, .f32⟩
  | 51 => ⟨S_, .f32⟩
  | 52 => ⟨S64x64, .f32⟩
  | 53 => ⟨S64x256, .f32⟩
  | 54 => ⟨S_, .f32⟩
  | 55 => ⟨S64x64, .f32⟩
  | 56 => ⟨S1x64x64, .f32⟩
  | 57 => ⟨S64x64, .f32⟩
  | 58 => ⟨S_, .f32⟩
  | 59 => ⟨S64x64, .f32⟩
  | 60 => ⟨S_, .f32⟩
  | 61 => ⟨S64x64, .f32⟩
  | 62 => ⟨S64x256, .f32⟩
  | 63 => ⟨S_, .f32⟩
  | 64 => ⟨S64x64, .f32⟩
  | 65 => ⟨S_, .f32⟩
  | 66 => ⟨S64x64, .f32⟩
  | 67 => ⟨S1x64x64, .f32⟩
  | 68 => ⟨S64x64, .f32⟩
  | 69 => ⟨S_, .f32⟩
  | 70 => ⟨S64x64, .f32⟩
  | 71 => ⟨S64x256, .f32⟩
  | 72 => ⟨S_, .f32⟩
  | 73 => ⟨S64x64, .f32⟩
  | 74 => ⟨S_, .f32⟩
  | 75 => ⟨S64x64, .f32⟩
  | 76 => ⟨S_, .f32⟩
  | 77 => ⟨S64x64, .f32⟩
  | 78 => ⟨S1x64x64, .f32⟩
  | 79 => ⟨S64x64, .f32⟩
  | 80 => ⟨S64x256, .f32⟩
  | 81 => ⟨S256x256, .f32⟩
  | 82 => ⟨S1x64x64, .f32⟩
  | 83 => ⟨S64x64, .f32⟩
  | 84 => ⟨S_, .f32⟩
  | 85 => ⟨S64x64, .f32⟩
  | 86 => ⟨S_, .f32⟩
  | 87 => ⟨S64x64, .f32⟩
  | 88 => ⟨S_, .f32⟩
  | 89 => ⟨S64x64, .f32⟩
  | 90 => ⟨S64x256, .f32⟩
  | 91 => ⟨S_, .f32⟩
  | 92 => ⟨S64x64, .f32⟩
  | 93 => ⟨S1x64x64, .f32⟩
  | 94 => ⟨S64x64, .f32⟩
  | 95 => ⟨S_, .f32⟩
  | 96 => ⟨S64x64, .f32⟩
  | 97 => ⟨S_, .f32⟩
  | 98 => ⟨S64x64, .f32⟩
  | 99 => ⟨S64x256, .f32⟩
  | 100 => ⟨S_, .f32⟩
  | 101 => ⟨S64x64, .f32⟩
  | 102 => ⟨S_, .f32⟩
  | 103 => ⟨S64x64, .f32⟩
  | 104 => ⟨S1x64x64, .f32⟩
  | 105 => ⟨S64x64, .f32⟩
  | 106 => ⟨S_, .f32⟩
  | 107 => ⟨S64x64, .f32⟩
  | 108 => ⟨S64x256, .f32⟩
  | 109 => ⟨S_, .f32⟩
  | 110 => ⟨S64x64, .f32⟩
  | 111 => ⟨S_, .f32⟩
  | 112 => ⟨S64x64, .f32⟩
  | 113 => ⟨S_, .f32⟩
  | 114 => ⟨S64x64, .f32⟩
  | 115 => ⟨S1x64x64, .f32⟩
  | 116 => ⟨S64x64, .f32⟩
  | 117 => ⟨S64x256, .f32⟩
  | 118 => ⟨S256x256, .f32⟩
  | 119 => ⟨S1x256x256, .f32⟩
  | 120 => ⟨S1x256x256, .f32⟩
  | 121 => ⟨S2x256x256, .f32⟩
  | 122 => ⟨S2x256x256, .bf16⟩
  | 123 => ⟨S512, .f32⟩
  | 124 => ⟨S_, .f32⟩
  | 125 => ⟨S512, .f32⟩
  | 126 => ⟨S512, .f32⟩
  | 127 => ⟨S1x512, .f32⟩
  | _ => ⟨S4x8192x1024, .f32⟩

abbrev hbmTy0_2 (i : Nat) : BufTy := match i % 128 with
  | 0 => ⟨S512, .f32⟩
  | 1 => ⟨S1x512, .f32⟩
  | 2 => ⟨S512, .f32⟩
  | 3 => ⟨S1x512, .f32⟩
  | 4 => ⟨S512, .f32⟩
  | 5 => ⟨S1x512, .f32⟩
  | 6 => ⟨S1024x1024, .f32⟩
  | 7 => ⟨S1024x1024, .f32⟩
  | 8 => ⟨S1024x2816, .f32⟩
  | 9 => ⟨S1024x2816, .f32⟩
  | 10 => ⟨S2816x1024, .f32⟩
  | 11 => ⟨S4x8192x1024, .f32⟩
  | 12 => ⟨S1024x1024, .bf16⟩
  | 13 => ⟨S1024x1024, .bf16⟩
  | 14 => ⟨S1024x2816, .bf16⟩
  | 15 => ⟨S1024x2816, .bf16⟩
  | 16 => ⟨S2816x1024, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1024x2560, .bf16⟩
  | .local _ .vmem, ⟨3, _⟩ => ⟨S8x2x64x640, .f32⟩
  | .local _ .vmem, ⟨4, _⟩ => ⟨S4x512, .f32⟩
  | .local _ .vmem, ⟨5, _⟩ => ⟨S1x512, .f32⟩
  | .local _ .vmem, ⟨6, _⟩ => ⟨S2x256x256, .bf16⟩
  | .local _ .vmem, ⟨7, _⟩ => ⟨S1x512, .f32⟩
  | .local _ .vmem, ⟨8, _⟩ => ⟨S2x256x256, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1024x1024, .bf16⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x2816, .f32⟩
  | .local _ .vmem, ⟨19, _⟩ => ⟨S32x2816, .f32⟩
  | .local _ .vmem, ⟨20, _⟩ => ⟨S32x2816, .f32⟩
  | .local _ .vmem, ⟨21, _⟩ => ⟨S32x2816, .f32⟩
  | .local _ .vmem, ⟨22, _⟩ => ⟨S128x1024, .f32⟩
  | .local _ .vmem, ⟨23, _⟩ => ⟨S128x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S32x1024, .bf16⟩
  | .local _ .vmem, ⟨27, _⟩ => ⟨S32x1024, .bf16⟩
  | .local _ .vmem, ⟨28, _⟩ => ⟨S32x1024, .bf16⟩
  | .local _ .vmem, ⟨29, _⟩ => ⟨S32x1024, .bf16⟩
  | .local _ .vmem, ⟨30, _⟩ => ⟨S32x2816, .bf16⟩
  | .local _ .vmem, ⟨31, _⟩ => ⟨S32x2816, .bf16⟩
  | .local _ .vmem, ⟨32, _⟩ => ⟨S32x2816, .bf16⟩
  | .local _ .vmem, ⟨33, _⟩ => ⟨S32x2816, .bf16⟩
  | .local _ .vmem, ⟨34, _⟩ => ⟨S128x1024, .bf16⟩
  | .local _ .vmem, ⟨35, _⟩ => ⟨S128x1024, .bf16⟩
  | .local _ .vmem, ⟨36, _⟩ => ⟨S1536x1024, .bf16⟩
  | .local _ .vmem, ⟨37, _⟩ => ⟨S1536x1024, .bf16⟩
  | .local _ .vmem, ⟨38, _⟩ => ⟨S1024x512, .bf16⟩
  | .local _ .vmem, ⟨39, _⟩ => ⟨S1032x512, .f32⟩
  | .local _ .vmem, ⟨40, _⟩ => ⟨S1024x512, .f32⟩
  | .local _ .vmem, ⟨41, _⟩ => ⟨S1024x512, .f32⟩
  | .local _ .vmem, ⟨42, _⟩ => ⟨S1024x512, .bf16⟩
  | .local _ .vmem, ⟨43, _⟩ => ⟨S1024x512, .f32⟩
  | .local _ .vmem, ⟨44, _⟩ => ⟨S1024x512, .f32⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S1024x512, .f32⟩
  | .local _ .vmem, ⟨49, _⟩ => ⟨S1024x1024, .bf16⟩
  | .local _ .vmem, ⟨50, _⟩ => ⟨S8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_c_0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_call1_v0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_3 : Ref sig .tc := ⟨.hbm, 58, rfl⟩
abbrev main_call4_v0 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_cst_9 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_10 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_v63 : Ref sig .tc := ⟨.hbm, 103, rfl⟩
abbrev main_cst_12 : Ref sig .tc := ⟨.hbm, 104, rfl⟩
abbrev main_v64 : Ref sig .tc := ⟨.hbm, 105, rfl⟩
abbrev main_cst_13 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_14 : Ref sig .tc := ⟨.hbm, 110, rfl⟩
abbrev main_v68 : Ref sig .tc := ⟨.hbm, 111, rfl⟩
abbrev main_v69 : Ref sig .tc := ⟨.hbm, 112, rfl⟩
abbrev main_cst_15 : Ref sig .tc := ⟨.hbm, 113, rfl⟩
abbrev main_v70 : Ref sig .tc := ⟨.hbm, 114, rfl⟩
abbrev main_cst_16 : Ref sig .tc := ⟨.hbm, 115, rfl⟩
abbrev main_v71 : Ref sig .tc := ⟨.hbm, 116, rfl⟩
abbrev main_cst_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_18 : Ref sig .tc := ⟨.hbm, 125, rfl⟩
abbrev main_v79 : Ref sig .tc := ⟨.hbm, 126, rfl⟩
abbrev main_cst_19 : Ref sig .tc := ⟨.hbm, 127, rfl⟩
abbrev main_v80 : Ref sig .tc := ⟨.hbm, 128, rfl⟩
abbrev main_cst_20 : Ref sig .tc := ⟨.hbm, 129, rfl⟩
abbrev main_v81 : Ref sig .tc := ⟨.hbm, 130, rfl⟩
abbrev main_v82 : Ref sig .tc := ⟨.hbm, 131, rfl⟩
abbrev main_cst_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_22 : Ref sig .tc := ⟨.hbm, 136, rfl⟩
abbrev main_v86 : Ref sig .tc := ⟨.hbm, 137, rfl⟩
abbrev main_cst_23 : Ref sig .tc := ⟨.hbm, 138, rfl⟩
abbrev main_v87 : Ref sig .tc := ⟨.hbm, 139, rfl⟩
abbrev main_v88 : Ref sig .tc := ⟨.hbm, 140, rfl⟩
abbrev main_cst_24 : Ref sig .tc := ⟨.hbm, 141, rfl⟩
abbrev main_v89 : Ref sig .tc := ⟨.hbm, 142, rfl⟩
abbrev main_cst_25 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_26 : Ref sig .tc := ⟨.hbm, 147, rfl⟩
abbrev main_v93 : Ref sig .tc := ⟨.hbm, 148, rfl⟩
abbrev main_v94 : Ref sig .tc := ⟨.hbm, 149, rfl⟩
abbrev main_cst_27 : Ref sig .tc := ⟨.hbm, 150, rfl⟩
abbrev main_v95 : Ref sig .tc := ⟨.hbm, 151, rfl⟩
abbrev main_cst_28 : Ref sig .tc := ⟨.hbm, 152, rfl⟩
abbrev main_v96 : Ref sig .tc := ⟨.hbm, 153, rfl⟩
abbrev main_cst_29 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_30 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_31 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_cst_32 : Ref sig .tc := ⟨.hbm, 175, rfl⟩
abbrev main_v115 : Ref sig .tc := ⟨.hbm, 176, rfl⟩
abbrev main_cst_33 : Ref sig .tc := ⟨.hbm, 177, rfl⟩
abbrev main_v116 : Ref sig .tc := ⟨.hbm, 178, rfl⟩
abbrev main_cst_34 : Ref sig .tc := ⟨.hbm, 179, rfl⟩
abbrev main_v117 : Ref sig .tc := ⟨.hbm, 180, rfl⟩
abbrev main_v118 : Ref sig .tc := ⟨.hbm, 181, rfl⟩
abbrev main_cst_35 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_36 : Ref sig .tc := ⟨.hbm, 186, rfl⟩
abbrev main_v122 : Ref sig .tc := ⟨.hbm, 187, rfl⟩
abbrev main_cst_37 : Ref sig .tc := ⟨.hbm, 188, rfl⟩
abbrev main_v123 : Ref sig .tc := ⟨.hbm, 189, rfl⟩
abbrev main_v124 : Ref sig .tc := ⟨.hbm, 190, rfl⟩
abbrev main_cst_38 : Ref sig .tc := ⟨.hbm, 191, rfl⟩
abbrev main_v125 : Ref sig .tc := ⟨.hbm, 192, rfl⟩
abbrev main_cst_39 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_cst_40 : Ref sig .tc := ⟨.hbm, 197, rfl⟩
abbrev main_v129 : Ref sig .tc := ⟨.hbm, 198, rfl⟩
abbrev main_v130 : Ref sig .tc := ⟨.hbm, 199, rfl⟩
abbrev main_cst_41 : Ref sig .tc := ⟨.hbm, 200, rfl⟩
abbrev main_v131 : Ref sig .tc := ⟨.hbm, 201, rfl⟩
abbrev main_cst_42 : Ref sig .tc := ⟨.hbm, 202, rfl⟩
abbrev main_v132 : Ref sig .tc := ⟨.hbm, 203, rfl⟩
abbrev main_cst_43 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_cst_44 : Ref sig .tc := ⟨.hbm, 212, rfl⟩
abbrev main_v140 : Ref sig .tc := ⟨.hbm, 213, rfl⟩
abbrev main_cst_45 : Ref sig .tc := ⟨.hbm, 214, rfl⟩
abbrev main_v141 : Ref sig .tc := ⟨.hbm, 215, rfl⟩
abbrev main_cst_46 : Ref sig .tc := ⟨.hbm, 216, rfl⟩
abbrev main_v142 : Ref sig .tc := ⟨.hbm, 217, rfl⟩
abbrev main_v143 : Ref sig .tc := ⟨.hbm, 218, rfl⟩
abbrev main_cst_47 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_48 : Ref sig .tc := ⟨.hbm, 223, rfl⟩
abbrev main_v147 : Ref sig .tc := ⟨.hbm, 224, rfl⟩
abbrev main_cst_49 : Ref sig .tc := ⟨.hbm, 225, rfl⟩
abbrev main_v148 : Ref sig .tc := ⟨.hbm, 226, rfl⟩
abbrev main_v149 : Ref sig .tc := ⟨.hbm, 227, rfl⟩
abbrev main_cst_50 : Ref sig .tc := ⟨.hbm, 228, rfl⟩
abbrev main_v150 : Ref sig .tc := ⟨.hbm, 229, rfl⟩
abbrev main_cst_51 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_cst_52 : Ref sig .tc := ⟨.hbm, 234, rfl⟩
abbrev main_v154 : Ref sig .tc := ⟨.hbm, 235, rfl⟩
abbrev main_v155 : Ref sig .tc := ⟨.hbm, 236, rfl⟩
abbrev main_cst_53 : Ref sig .tc := ⟨.hbm, 237, rfl⟩
abbrev main_v156 : Ref sig .tc := ⟨.hbm, 238, rfl⟩
abbrev main_cst_54 : Ref sig .tc := ⟨.hbm, 239, rfl⟩
abbrev main_v157 : Ref sig .tc := ⟨.hbm, 240, rfl⟩
abbrev main_cst_55 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_56 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182_0 : Ref sig .tc := ⟨.hbm, 267, rfl⟩
abbrev main_v182_1 : Ref sig .tc := ⟨.hbm, 268, rfl⟩
abbrev main_v182_2 : Ref sig .tc := ⟨.hbm, 269, rfl⟩
abbrev main_v182_3 : Ref sig .tc := ⟨.hbm, 270, rfl⟩
abbrev main_v182_4 : Ref sig .tc := ⟨.hbm, 271, rfl⟩
abbrev main_v182_5 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_scratch11 : Ref sig .tc := ⟨.vmem, 47, rfl⟩
abbrev cc0_scratch12 : Ref sig .tc := ⟨.vmem, 48, rfl⟩
abbrev cc0_scratch13 : Ref sig .tc := ⟨.vmem, 49, rfl⟩
abbrev cc0_scratch14 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2x64x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x2816 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S32x2816 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S128x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Proof.Rows.lean ====
/- The layer's arithmetic on one row, over the extended reals: the scaled norm, the linear maps, one attention head and
   the feed-forward part, as functions of one token's row and of the weight matrices. -/
module

public import Idealize.ShloMosaic.Lib.Pointwise

@[expose] public section

set_option maxRecDepth 16384

noncomputable section

open Idealize.ShloMosaic

namespace Cert.Layer

/-- The row length 1024 as the programs' float constant. -/
def cLen : EReal := Ideal.ofBits .f32 0x44800000#32
/-- The norm's small constant, as the programs' float constant. -/
def cEps : EReal := Ideal.ofBits .f32 0x358637BD#32
/-- The value a maximum starts from, as the programs' float constant. -/
def cBot : EReal := Ideal.ofBits .f32 0xFF800000#32

/-- The root-mean-square norm of the row `x` with the gains `g`. -/
def rms (x g : Fin 1024 → EReal) (j : Fin 1024) : EReal :=
  x j * Ideal.rsqrt (Ideal.div (∑ k, x k * x k) cLen + cEps) * g j

/-- The row `x` times the matrix `W`. -/
def lin {n : Nat} (x : Fin 1024 → EReal) (W : Fin 1024 → Fin n → EReal) (j : Fin n) : EReal := ∑ k, x k * W k j

/-- The dot products of one query with the 256 keys. -/
def score (q : Fin 256 → EReal) (K : Fin 256 → Fin 256 → EReal) (m : Fin 256) : EReal := ∑ e, q e * K m e

/-- The largest of 256 numbers. -/
def top (s : Fin 256 → EReal) : EReal := Finset.univ.fold max cBot s

/-- A maximum that starts from `cBot` is at least `cBot`. -/
theorem bot_top (s : Fin 256 → EReal) : max cBot (top s) = top s :=
  max_eq_right ((Finset.le_fold_max cBot).2 (.inl le_rfl))

/-- One attention head on scores `s` and values `V`: weights `2 ^ (s − max s)`, their weighted sum of the values, then
    one division by the sum of the weights. -/
def head2 (s : Fin 256 → EReal) (V : Fin 256 → Fin 256 → EReal) (d : Fin 256) : EReal :=
  Ideal.div (∑ m, Ideal.exp2 (s m - top s) * V m d) (∑ m, Ideal.exp2 (s m - top s))

/-- Column `d` of head `h`. -/
def col (h : Fin 4) (d : Fin 256) : Fin 1024 := ⟨h.val * 256 + d.val, by omega⟩

/-- Column `x` is column `x % 256` of head `x / 256`. -/
theorem col_divmod (x : Fin 1024) : col ⟨x.val / 256, by omega⟩ ⟨x.val % 256, Nat.mod_lt _ (by decide)⟩ = x :=
  Fin.ext (by show x.val / 256 * 256 + x.val % 256 = x.val; omega)

/-- Four heads side by side, from scores and values of each: column `c` is column `c % 256` of head `c / 256`. -/
def heads (f : Fin 4 → Fin 256 → EReal) (c : Fin 1024) : EReal :=
  f ⟨c.val / 256, by omega⟩ ⟨c.val % 256, Nat.mod_lt _ (by decide)⟩

/-- The gated unit `x · σ(x) · u`. -/
def swi (x u : EReal) : EReal := x * Ideal.logistic x * u

/-- The feed-forward part's hidden row. -/
def hid (hf : Fin 1024 → EReal) (Wg Wu : Fin 1024 → Fin 2816 → EReal) (n : Fin 2816) : EReal :=
  swi (lin hf Wg n) (lin hf Wu n)

/-- The feed-forward part added to the row `x`, the hidden columns in three runs. -/
def ffn3 (x hf : Fin 1024 → EReal) (Wg Wu : Fin 1024 → Fin 2816 → EReal) (Wd : Fin 2816 → Fin 1024 → EReal) (j : Fin 1024) : EReal :=
  x j + (∑ k : Fin 1024, hid hf Wg Wu ⟨k.val, by omega⟩ * Wd ⟨k.val, by omega⟩ j)
    + (∑ k : Fin 1024, hid hf Wg Wu ⟨1024 + k.val, by omega⟩ * Wd ⟨1024 + k.val, by omega⟩ j)
    + (∑ k : Fin 768, hid hf Wg Wu ⟨2048 + k.val, by omega⟩ * Wd ⟨2048 + k.val, by omega⟩ j)

/-- The feed-forward part added to the row `x`, all hidden columns in one sum. -/
def ffn (x hf : Fin 1024 → EReal) (Wg Wu : Fin 1024 → Fin 2816 → EReal) (Wd : Fin 2816 → Fin 1024 → EReal) (j : Fin 1024) : EReal :=
  x j + ∑ n, hid hf Wg Wu n * Wd n j

/-- A sum over 2816 columns is the sum of its runs of 1024, 1024 and 768. -/
theorem sum_runs (f : Fin 2816 → EReal) : ∑ n, f n = (∑ k : Fin 1024, f ⟨k.val, by omega⟩)
    + (∑ k : Fin 1024, f ⟨1024 + k.val, by omega⟩) + (∑ k : Fin 768, f ⟨2048 + k.val, by omega⟩) := by
  rw [Fin.sum_univ_add (a := 2048) (b := 768) f, Fin.sum_univ_add (a := 1024) (b := 1024)]
  rfl

/-- The feed-forward part in three runs is the feed-forward part. -/
theorem ffn3_eq (x hf : Fin 1024 → EReal) (Wg Wu : Fin 1024 → Fin 2816 → EReal) (Wd : Fin 2816 → Fin 1024 → EReal) (j : Fin 1024) :
    ffn3 x hf Wg Wu Wd j = ffn x hf Wg Wu Wd j := by
  unfold ffn ffn3
  rw [sum_runs, add_assoc, add_assoc, add_assoc]

/-- The row after the cross-attention: the row `x`, plus the heads' row times the output matrix. -/
def attend (hd : Fin 4 → Fin 256 → EReal) (x : Fin 1024 → EReal) (Wo : Fin 1024 → Fin 1024 → EReal) (j : Fin 1024) : EReal :=
  x j + lin (heads hd) Wo j

/-- One head of the row with queries `q`, from the keys and the values of all heads: powers of two, one division. -/
def headOf2 (q : Fin 1024 → EReal) (K V : Fin 256 → Fin 1024 → EReal) (h : Fin 4) : Fin 256 → EReal :=
  head2 (score (fun e => q (col h e)) fun m e => K m (col h e)) (fun m e => V m (col h e))

/-- The optimised program's result row: from the row `x` of the residual stream, the batch's keys (scaled by the key
    scale) and values, and the weights. -/
def outRow2 (x : Fin 1024 → EReal) (K V : Fin 256 → Fin 1024 → EReal) (gc : Fin 1024 → EReal) (Wq Wo : Fin 1024 → Fin 1024 → EReal)
    (gf : Fin 1024 → EReal) (Wg Wu : Fin 1024 → Fin 2816 → EReal) (Wd : Fin 2816 → Fin 1024 → EReal) (gl : Fin 1024 → EReal) :
    Fin 1024 → EReal :=
  rms (ffn3 (attend (headOf2 (lin (rms x gc) Wq) K V) x Wo) (rms (attend (headOf2 (lin (rms x gc) Wq) K V) x Wo) gf) Wg Wu Wd) gl

/-- The result row of equal operands. -/
theorem outRow2_congr {x x' : Fin 1024 → EReal} {K K' : Fin 256 → Fin 1024 → EReal} {V V' : Fin 256 → Fin 1024 → EReal} {gc gc' : Fin 1024 → EReal} {Wq Wq' : Fin 1024 → Fin 1024 → EReal} {Wo Wo' : Fin 1024 → Fin 1024 → EReal} {gf gf' : Fin 1024 → EReal} {Wg Wg' : Fin 1024 → Fin 2816 → EReal} {Wu Wu' : Fin 1024 → Fin 2816 → EReal} {Wd Wd' : Fin 2816 → Fin 1024 → EReal} {gl gl' : Fin 1024 → EReal}
    (hx : x = x') (hK : K = K') (hV : V = V') (hgc : gc = gc') (hWq : Wq = Wq') (hWo : Wo = Wo') (hgf : gf = gf') (hWg : Wg = Wg') (hWu : Wu = Wu') (hWd : Wd = Wd') (hgl : gl = gl') :
    outRow2 x K V gc Wq Wo gf Wg Wu Wd gl = outRow2 x' K' V' gc' Wq' Wo' gf' Wg' Wu' Wd' gl' := by
  subst hx hK hV hgc hWq hWo hgf hWg hWu hWd hgl
  rfl

/-- The softmax weight of memory row `m`. -/
def weight (s : Fin 256 → EReal) (m : Fin 256) : EReal :=
  Ideal.div (Ideal.exp (s m - top s)) (∑ n, Ideal.exp (s n - top s))

/-- One attention head on scores `s` and values `V`: the softmax weights' sum of the values. -/
def head (s : Fin 256 → EReal) (V : Fin 256 → Fin 256 → EReal) (d : Fin 256) : EReal := ∑ m, V m d * weight s m

/-- The scores' scale `1/16`, as the programs' float constant. -/
def cSixteenth : EReal := Ideal.ofBits .f32 0x3D800000#32

/-- One head of the row with queries `q`, from the keys and values: the scores scaled by `1/16`, the softmax. -/
def headOf (q : Fin 1024 → EReal) (K V : Fin 256 → Fin 1024 → EReal) (h : Fin 4) : Fin 256 → EReal :=
  head (fun m => score (fun e => q (col h e)) (fun m e => K m (col h e)) m * cSixteenth) (fun m e => V m (col h e))

/-- The reference's result row: from the row `x` of the residual stream, the batch's keys and values, and the weights. -/
def outRow (x : Fin 1024 → EReal) (K V : Fin 256 → Fin 1024 → EReal) (gc : Fin 1024 → EReal) (Wq Wo : Fin 1024 → Fin 1024 → EReal)
    (gf : Fin 1024 → EReal) (Wg Wu : Fin 1024 → Fin 2816 → EReal) (Wd : Fin 2816 → Fin 1024 → EReal) (gl : Fin 1024 → EReal) :
    Fin 1024 → EReal :=
  rms (ffn (attend (headOf (lin (rms x gc) Wq) K V) x Wo) (rms (attend (headOf (lin (rms x gc) Wq) K V) x Wo) gf) Wg Wu Wd) gl

end Cert.Layer

end
-- ==== Proof.Consts.lean ====
/- The programs' float constants as extended reals. -/
module

public import proofs.«01_k».proof.Proof.Rows

@[expose] public section

noncomputable section

open Idealize.ShloMosaic

namespace Cert.Layer

/-- The row length denotes `1024`. -/
theorem cLen_eq : cLen = ((1024 : ℝ) : EReal) := by
  unfold cLen
  simp [Ideal.ofBits, Ideal.ieee, -EReal.coe_mul]; norm_num

/-- The norm's small constant denotes a positive real. -/
theorem cEps_eq : ∃ e : ℝ, 0 < e ∧ cEps = (e : EReal) := by
  unfold cEps
  refine ⟨_, ?_, by simp [Ideal.ofBits, Ideal.ieee, -EReal.coe_mul]; rfl⟩
  norm_num

/-- The value a maximum starts from denotes `⊥`. -/
theorem cBot_eq : cBot = ⊥ := by
  unfold cBot
  simp [Ideal.ofBits, Ideal.ieee]

/-- The scores' scale denotes `1/16`. -/
theorem cSixteenth_eq : cSixteenth = ((1 / 16 : ℝ) : EReal) := by
  unfold cSixteenth
  simp [Ideal.ofBits, Ideal.ieee, -EReal.coe_mul]; norm_num

/-- The precondition's bound denotes `⊤`. -/
theorem top_eq : Ideal.ofBits .f32 0x7F800000#32 = ⊤ := by
  simp [Ideal.ofBits, Ideal.ieee]

end Cert.Layer

end
-- ==== Proof.Equation.lean ====
/- The optimised program's row is the reference's row. The scores are reals (the norm of any row with real gains is a row
   of reals, and the query and key matrices are real), so a power of two of a score scaled by `(1/16) · (log 2)⁻¹` is the
   exponential of the score scaled by `1/16`, the weights are positive reals, and one division of a weighted sum by their
   sum is the sum of the divided weights — whatever the values are. -/
module

public import proofs.«01_k».proof.Proof.Consts

@[expose] public section

noncomputable section

open Idealize.ShloMosaic

namespace Cert.Layer

/-- `x` is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals, as a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {n : Nat} {f : Fin n → EReal} (h : ∀ i, IsReal (f i)) : IsReal (∑ i, f i) := by
  choose g hg using h
  exact ⟨∑ i, g i, by rw [← sum_coe]; exact Finset.sum_congr rfl fun i _ => hg i⟩

/-- A square is nonnegative. -/
theorem sq_nonneg' (x : EReal) : 0 ≤ x * x := by
  induction x with
  | bot => simp
  | top => simp
  | coe r => rw [← EReal.coe_mul]; exact_mod_cast mul_self_nonneg r

/-- The norm of ANY row with real gains is a row of reals: a row with an infinite entry has an infinite sum of squares,
    whose reciprocal root is `0`. -/
theorem rms_real (x g : Fin 1024 → EReal) (hg : ∀ j, IsReal (g j)) (j : Fin 1024) : IsReal (rms x g j) := by
  obtain ⟨e, he, hE⟩ := cEps_eq
  unfold rms
  by_cases hx : ∀ k, IsReal (x k)
  · choose a ha using hx
    have hs : ∑ k, x k * x k = ((∑ k, a k * a k : ℝ) : EReal) := by
      rw [← sum_coe]
      exact Finset.sum_congr rfl fun k _ => by rw [ha k, EReal.coe_mul]
    have hn : 0 ≤ ∑ k, a k * a k := Finset.sum_nonneg fun k _ => mul_self_nonneg (a k)
    have hp : 0 < (∑ k, a k * a k) * (1 / 1024) + e := by positivity
    rw [hs, cLen_eq, hE, Ideal.div_coe (by norm_num), ← EReal.coe_mul, ← EReal.coe_add, Ideal.rsqrt_coe, if_neg hp.le.not_gt, if_neg hp.ne']
    exact IsReal.mul (IsReal.mul ⟨a j, ha j⟩ ⟨_, rfl⟩) (hg j)
  · obtain ⟨k, hk⟩ := not_forall.1 hx
    have hkk : x k * x k = ⊤ := by
      generalize x k = y at hk
      induction y with
      | bot => simp
      | top => simp
      | coe r => exact (hk ⟨r, rfl⟩).elim
    have hs : ∑ k, x k * x k = ⊤ := top_le_iff.1 (hkk ▸ Finset.single_le_sum (f := fun k => x k * x k) (fun i _ => sq_nonneg' (x i)) (Finset.mem_univ k))
    rw [hs, cLen_eq, hE, Ideal.div_coe (by norm_num), EReal.top_mul_coe_of_pos (by norm_num), EReal.top_add_coe, Ideal.rsqrt_top, mul_zero, zero_mul]
    exact ⟨0, rfl⟩

/-- A row of reals times a real matrix is a row of reals. -/
theorem lin_real {n : Nat} (x : Fin 1024 → EReal) (W : Fin 1024 → Fin n → EReal) (hx : ∀ k, IsReal (x k)) (hW : ∀ k j, IsReal (W k j))
    (j : Fin n) : IsReal (lin x W j) :=
  IsReal.sum fun k => (hx k).mul (hW k j)

/-- The largest of 256 reals is the one no other exceeds. -/
theorem top_coe (f : Fin 256 → ℝ) (m0 : Fin 256) (h : ∀ m, f m ≤ f m0) : top (fun m => (f m : EReal)) = (f m0 : EReal) := by
  refine le_antisymm ((Finset.fold_max_le _).2 ⟨?_, fun m _ => EReal.coe_le_coe_iff.2 (h m)⟩)
    ((Finset.le_fold_max _).2 (.inr ⟨m0, Finset.mem_univ m0, le_rfl⟩))
  rw [cBot_eq]
  exact bot_le

/-- The key scale is a positive real. -/
theorem scale_pos : 0 < (1 / 16 : ℝ) * (Real.log 2)⁻¹ := mul_pos (by norm_num) (inv_pos.2 (Real.log_pos (by norm_num)))

/-- A power of two with the key scale in its exponent is the exponential of a sixteenth. -/
theorem rpow_scale (t : ℝ) : Real.rpow 2 (t * ((1 / 16) * (Real.log 2)⁻¹)) = Real.exp (t * (1 / 16)) := by
  have hl : Real.log 2 ≠ 0 := (Real.log_pos (by norm_num)).ne'
  show (2 : ℝ) ^ (t * ((1 / 16) * (Real.log 2)⁻¹)) = _
  rw [Real.rpow_def_of_pos (by norm_num)]
  congr 1
  field_simp

/-- A nonnegative real factor distributes over a sum of any extended reals. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- On real scores `a`, the head by powers of two of the scores times the key scale and one division is the softmax head
    of the scores times `1/16`. -/
theorem head2_eq (a : Fin 256 → ℝ) (V : Fin 256 → Fin 256 → EReal) (d : Fin 256) :
    head2 (fun m => ((a m * ((1 / 16) * (Real.log 2)⁻¹) : ℝ) : EReal)) V d = head (fun m => ((a m * (1 / 16) : ℝ) : EReal)) V d := by
  obtain ⟨m0, h0⟩ := Finite.exists_max a
  have t2 : top (fun m => ((a m * ((1 / 16) * (Real.log 2)⁻¹) : ℝ) : EReal)) = _ :=
    top_coe _ m0 fun m => mul_le_mul_of_nonneg_right (h0 m) scale_pos.le
  have t1 : top (fun m => ((a m * (1 / 16) : ℝ) : EReal)) = _ := top_coe _ m0 fun m => mul_le_mul_of_nonneg_right (h0 m) (by norm_num)
  have e2 : ∀ m, Ideal.exp2 (((a m * ((1 / 16) * (Real.log 2)⁻¹) : ℝ) : EReal) - ((a m0 * ((1 / 16) * (Real.log 2)⁻¹) : ℝ) : EReal))
      = ((Real.exp ((a m - a m0) * (1 / 16)) : ℝ) : EReal) := fun m => by
    rw [← EReal.coe_sub, Ideal.exp2_coe, ← sub_mul, rpow_scale]
  have e1 : ∀ m, Ideal.exp (((a m * (1 / 16) : ℝ) : EReal) - ((a m0 * (1 / 16) : ℝ) : EReal))
      = ((Real.exp ((a m - a m0) * (1 / 16)) : ℝ) : EReal) := fun m => by
    rw [← EReal.coe_sub, Ideal.exp_coe, ← sub_mul]
  have hL : 0 < ∑ m, Real.exp ((a m - a m0) * (1 / 16)) := Finset.sum_pos (fun m _ => Real.exp_pos _) ⟨m0, Finset.mem_univ m0⟩
  unfold head2 head weight
  simp only [t1, t2, e1, e2, sum_coe, Ideal.div_coe hL.ne']
  rw [sum_mul_coe _ _ _ (by positivity)]
  exact Finset.sum_congr rfl fun m _ => by rw [mul_comm (_ : EReal) (V m d), mul_assoc]

/-- The heads agree where the query and key rows are real. -/
theorem headOf2_eq (q : Fin 1024 → EReal) (K V : Fin 256 → Fin 1024 → EReal) (hq : ∀ j, IsReal (q j)) (hK : ∀ m j, IsReal (K m j)) :
    headOf2 q (fun m j => K m j * (((1 / 16) * (Real.log 2)⁻¹ : ℝ) : EReal)) V = headOf q K V := by
  choose a ha using hq
  choose b hb using hK
  funext h d
  have s2 : score (fun e => q (col h e)) (fun m e => K m (col h e) * (((1 / 16) * (Real.log 2)⁻¹ : ℝ) : EReal))
      = fun m => (((∑ e, a (col h e) * b m (col h e)) * ((1 / 16) * (Real.log 2)⁻¹) : ℝ) : EReal) := funext fun m => by
    rw [Finset.sum_mul, ← sum_coe]
    exact Finset.sum_congr rfl fun e _ => by dsimp only; rw [ha, hb, ← EReal.coe_mul, ← EReal.coe_mul, mul_assoc]
  have s1 : (fun m => score (fun e => q (col h e)) (fun m e => K m (col h e)) m * cSixteenth)
      = fun m => (((∑ e, a (col h e) * b m (col h e)) * (1 / 16) : ℝ) : EReal) := funext fun m => by
    rw [EReal.coe_mul, cSixteenth_eq, ← sum_coe]
    exact congrArg (· * ((1 / 16 : ℝ) : EReal)) (Finset.sum_congr rfl fun e _ => by dsimp only; rw [ha, hb, ← EReal.coe_mul])
  unfold headOf2 headOf
  rw [s2, s1, head2_eq]

/-- The optimised program's row, from keys times the key scale, is the reference's row. -/
theorem outRow_eq (x : Fin 1024 → EReal) (K V : Fin 256 → Fin 1024 → EReal) (gc : Fin 1024 → EReal) (Wq Wo : Fin 1024 → Fin 1024 → EReal)
    (gf : Fin 1024 → EReal) (Wg Wu : Fin 1024 → Fin 2816 → EReal) (Wd : Fin 2816 → Fin 1024 → EReal) (gl : Fin 1024 → EReal)
    (hK : ∀ m j, IsReal (K m j)) (hg : ∀ k, IsReal (gc k)) (hq : ∀ k j, IsReal (Wq k j)) :
    outRow2 x (fun m j => K m j * (((1 / 16) * (Real.log 2)⁻¹ : ℝ) : EReal)) V gc Wq Wo gf Wg Wu Wd gl = outRow x K V gc Wq Wo gf Wg Wu Wd gl := by
  unfold outRow2 outRow
  rw [headOf2_eq _ K V (lin_real _ _ (rms_real x gc hg) hq) hK]
  exact congrArg (fun r => rms r gl) (funext fun j => ffn3_eq _ _ Wg Wu Wd j)

end Cert.Layer

end
-- ==== Proof.Precondition.lean ====
/- The precondition read back: every gain of the cross-attention's norm and of the memory's norm and every entry of the
   query and key matrices is a real number. -/
module

public import proofs.«01_k».proof.Defs
public import proofs.«01_k».proof.Proof.Equation
public import Idealize.ShloMosaic.Lib.ReduceAll
public import Idealize.ShloMosaic.Lib.Pointwise.Select

@[expose] public section

set_option maxRecDepth 16384

noncomputable section

open Idealize.ShloMosaic

namespace Cert.Finite

open Cert.Pre_finite Cert.Pre_finite.Facts

instance : Subsingleton S_.Idx := ⟨fun i j => funext fun k => k.elim0⟩

/-- An extended real whose absolute value is below `⊤` is a real. -/
theorem real_of_abs_lt (x : EReal) (h : max x (-x) < ⊤) : Layer.IsReal x := by
  induction x with
  | bot => exact absurd h (by simp)
  | top => exact absurd h (by simp)
  | coe r => exact ⟨r, rfl⟩

/-- Where `all (|a| < ∞)` is one, every entry of `a` is a real. -/
theorem real_of_all {s : Shape} {axes : List (Fin s.rank)} (a : FVec Ideal s .f32) (hb : S_.BroadcastsInDim s (![] : Fin 0 → Fin s.rank))
    (h : s.ReducesTo axes S_) (hu : 0 < S_.numel) (j : S_.Idx)
    (e : Host.reduce IntOp.andi (cmpf .olt (Host.absf a) (broadcastInDim s ![] hb (constant S_ .f32 0x7F800000#32))) (constantI S_ 1 1#1) h hu j = 1#1)
    (i : s.Idx) : Layer.IsReal (a i) := by
  have h1 : Ideal.cmp .olt (max (a i) (-(a i))) (Ideal.ofBits .f32 0x7F800000#32) = 1#1 := Host.reduce_andi_all _ _ h hu j e i
  rw [Layer.top_eq] at h1
  exact real_of_abs_lt _ ((Ideal.cmp_olt_eq_one _ _).1 h1)

/-- What the precondition says of its four arrays. -/
theorem reals [Cert.Pre_finite.Facts] (a0 : FVec Ideal S4x8192x1024 .f32) (a1 : FVec Ideal S4x256x1024 .f32) (a2 : FVec Ideal S1x1024 .f32)
    (a3 : FVec Ideal S1x1024x2560 .f32) (a4 : FVec Ideal S1x1024x1024 .f32) (a5 a6 : FVec Ideal S1x1024 .f32) (a7 : FVec Ideal S1024x1024 .bf16)
    (a8 a9 : FVec Ideal S1x1024x1024 .f32) (a10 : FVec Ideal S1024x1024 .bf16) (a11 : FVec Ideal S1x1024 .f32) (a12 a13 : FVec Ideal S1024x2816 .bf16)
    (a14 : FVec Ideal S2816x1024 .bf16) (a15 : FVec Ideal S1024 .f32)
    (h : Cert.Pre_finite.fn (F := Ideal) a0 a1 a2 a3 a4 a5 a6 a7 a8 a9 a10 a11 a12 a13 a14 a15 = fun _ => 1#1) :
    (∀ i, Layer.IsReal (a5 i)) ∧ (∀ i, Layer.IsReal (a7 i)) ∧ (∀ i, Layer.IsReal (a6 i)) ∧ (∀ i, Layer.IsReal (a8 i)) := by
  have e := congrFun h (fun k => k.elim0)
  unfold Cert.Pre_finite.fn Cert.Pre_finite.fn_part1 at e
  obtain ⟨e1, e8⟩ := IntOp.andi_eq_one.1 e
  obtain ⟨e2, e6⟩ := IntOp.andi_eq_one.1 e1
  obtain ⟨e5, e7⟩ := IntOp.andi_eq_one.1 e2
  exact ⟨real_of_all a5 _ _ _ _ e5, real_of_all (extf .f32 a7 bitsLt_bf16_f32) _ _ _ _ e7, real_of_all a6 _ _ _ _ e6, real_of_all a8 _ _ _ _ e8⟩

end Cert.Finite

end
-- ==== Proof.Block.lean ====
/- What one grid point of the second call computes, row by row: the queries, the four heads, the residual after the
   attention, the normed row, the feed-forward part and the last norm, for the lower and the upper 512 rows of its block. -/
module
public import proofs.«01_k».proof.Proof.Gen.KernelIdeal.Frame
public import proofs.«01_k».proof.Proof.Rows
public import Idealize.ShloMosaic.Lib.Pipeline.ValueKit
@[expose] public section
set_option maxRecDepth 16384
noncomputable section
open Idealize.ShloMosaic Idealize.ShloMosaic.TcCoe Idealize.SL.Sem
namespace Cert.KernelIdeal.Block
open Cert.KernelIdeal Cert.KernelIdeal.Gen Cert.Layer

variable (x0 : Vec Ideal S1x1024x1024 .f32) (x1 x2 : Vec Ideal S1x256x1024 .bf16) (x3 : Vec Ideal S1x1024 .f32)
  (x4 x5 : Vec Ideal S1024x1024 .bf16) (x6 : Vec Ideal S1x1024 .f32) (x7 x8 : Vec Ideal S1024x2816 .bf16)
  (x9 : Vec Ideal S2816x1024 .bf16) (x10 : Vec Ideal S1x1024 .f32)

def lo (r : Fin 512) : Fin 1024 := ⟨r.val, by omega⟩
def hi (r : Fin 512) : Fin 1024 := ⟨512 + r.val, by omega⟩
/-- The columns of the four heads, as offsets. -/
def c0 (d : Fin 256) : Fin 1024 := ⟨d.val, by omega⟩
@[inherit_doc c0] def c1 (d : Fin 256) : Fin 1024 := ⟨256 + d.val, by omega⟩
@[inherit_doc c0] def c2 (d : Fin 256) : Fin 1024 := ⟨512 + d.val, by omega⟩
@[inherit_doc c0] def c3 (d : Fin 256) : Fin 1024 := ⟨768 + d.val, by omega⟩

/-- The queries of row `r` of the block. -/
def qRow (x0 : Vec Ideal S1x1024x1024 .f32) (x3 : Vec Ideal S1x1024 .f32) (x4 : Vec Ideal S1024x1024 .bf16) (r : Fin 1024) : Fin 1024 → EReal :=
  lin (rms (fun k => x0 (ix3 0 r k)) (fun k => x3 (ix2 0 k))) (fun k j => x4 (ix2 k j))

/-- One head. -/
def hRow (q : Fin 1024 → EReal) (x1 x2 : Vec Ideal S1x256x1024 .bf16) (c : Fin 256 → Fin 1024) (d : Fin 256) : EReal :=
  head2 (score (fun e => q (c e)) fun m e => x1 (ix3 0 m (c e))) (fun m e => x2 (ix3 0 m (c e))) d

/-- The attention's row before its output matrix. -/
def oRow (q : Fin 1024 → EReal) (x1 x2 : Vec Ideal S1x256x1024 .bf16) : Fin 1024 → EReal :=
  heads fun h => hRow q x1 x2 (col h)

/-- The heads as they are put side by side: a choice by column. -/
theorem ladder (q : Fin 1024 → EReal) (x1 x2 : Vec Ideal S1x256x1024 .bf16) (x : Fin 1024) :
    (if h : x.val < 256 then hRow q x1 x2 c0 ⟨x.val, h⟩
      else if h : x.val - 256 < 256 then hRow q x1 x2 c1 ⟨x.val - 256, h⟩
      else if h : x.val - 256 - 256 < 256 then hRow q x1 x2 c2 ⟨x.val - 256 - 256, h⟩
      else hRow q x1 x2 c3 ⟨x.val - 256 - 256 - 256, by omega⟩) = oRow q x1 x2 x := by
  have e : ∀ (c : Fin 256 → Fin 1024) (h : Fin 4) (d : Fin 256), (∀ d, (c d).val = h.val * 256 + d.val) →
      x.val = h.val * 256 + d.val → hRow q x1 x2 c d = oRow q x1 x2 x := by
    intro c h d hc hx
    have h1 : c = col h := funext fun d => Fin.ext (hc d)
    have h2 : (⟨x.val / 256, by omega⟩ : Fin 4) = h := Fin.ext (by show x.val / 256 = h.val; omega)
    have h3 : (⟨x.val % 256, Nat.mod_lt _ (by decide)⟩ : Fin 256) = d := Fin.ext (by show x.val % 256 = d.val; omega)
    unfold oRow heads
    rw [h1, h2, h3]
  split
  · exact e c0 0 _ (fun d => by show d.val = 0 * 256 + d.val; omega) (by show x.val = 0 * 256 + x.val; omega)
  split
  · exact e c1 1 _ (fun d => by show 256 + d.val = 1 * 256 + d.val; omega) (by show x.val = 1 * 256 + (x.val - 256); omega)
  split
  · exact e c2 2 _ (fun d => by show 512 + d.val = 2 * 256 + d.val; omega) (by show x.val = 2 * 256 + (x.val - 256 - 256); omega)
  · exact e c3 3 _ (fun d => by show 768 + d.val = 3 * 256 + d.val; omega) (by show x.val = 3 * 256 + (x.val - 256 - 256 - 256); omega)

/-- Row `r` after the cross-attention. -/
def xRow (x0 : Vec Ideal S1x1024x1024 .f32) (x1 x2 : Vec Ideal S1x256x1024 .bf16) (x3 : Vec Ideal S1x1024 .f32)
    (x4 x5 : Vec Ideal S1024x1024 .bf16) (r : Fin 1024) (j : Fin 1024) : EReal :=
  x0 (ix3 0 r j) + lin (oRow (qRow x0 x3 x4 r) x1 x2) (fun k j => x5 (ix2 k j)) j

theorem pay44_at (r : Fin 512) (j : Fin 1024) : k1_pay44 x0 x1 x2 x3 x4 x5 x6 x7 x8 x9 x10 (ix2 r j) = x0 (ix3 0 (lo r) j) := by
  pointwise [k1_pay44, k1_pay3]
  rfl

theorem pay45_at (r : Fin 512) (j : Fin 1024) : k1_pay45 x0 x1 x2 x3 x4 x5 x6 x7 x8 x9 x10 (ix2 r j) = qRow x0 x3 x4 (lo r) j := by
  pointwise [k1_pay45, k1_pay4, k1_pay3, qRow, lin, rms]
  rfl

theorem pay46_at (r : Fin 512) (j : Fin 1024) : k1_pay46 x0 x1 x2 x3 x4 x5 x6 x7 x8 x9 x10 (ix2 r j) = x0 (ix3 0 (hi r) j) := by
  pointwise [k1_pay46, k1_pay5]
  rfl

theorem pay48_at (r : Fin 512) (j : Fin 1024) : k1_pay48 x0 x1 x2 x3 x4 x5 x6 x7 x8 x9 x10 (ix2 r j) = qRow x0 x3 x4 (hi r) j := by
  pointwise [k1_pay48, k1_pay47, k1_pay8, k1_pay6, k1_pay5, qRow, lin, rms]
  rfl

theorem pay49_at (r : Fin 512) (d : Fin 256) : k1_pay49 x0 x1 x2 x3 x4 x5 x6 x7 x8 x9 x10 (ix2 r d) = hRow (qRow x0 x3 x4 (lo r)) x1 x2 c0 d := by
  pointwise [k1_pay49, k1_pay9, k1_pay7, k1_pay4, k1_pay3, hRow, head2, score, top, qRow, lin, rms]
  rfl

theorem pay50_at (r : Fin 512) (d : Fin 256) : k1_pay50 x0 x1 x2 x3 x4 x5 x6 x7 x8 x9 x10 (ix2 r d) = hRow (qRow x0 x3 x4 (hi r)) x1 x2 c0 d := by
  pointwise [k1_pay50, k1_pay14, k1_pay11, k1_pay12, k1_pay47, k1_pay8, k1_pay6, k1_pay5, hRow, head2, score, top, qRow, lin, rms]
  rfl

theorem pay51_at (r : Fin 512) (d : Fin 256) : k1_pay51 x0 x1 x2 x3 x4 x5 x6 x7 x8 x9 x10 (ix2 r d) = hRow (qRow x0 x3 x4 (lo r)) x1 x2 c1 d := by
  pointwise [k1_pay51, k1_pay15, k1_pay10, k1_pay13, hRow, head2, score, top]
  simp only [pay45_at]
  rfl

theorem pay52_at (r : Fin 512) (d : Fin 256) : k1_pay52 x0 x1 x2 x3 x4 x5 x6 x7 x8 x9 x10 (ix2 r d) = hRow (qRow x0 x3 x4 (hi r)) x1 x2 c1 d := by
  pointwise [k1_pay52, k1_pay19, k1_pay16, k1_pay17, hRow, head2, score, top]
  simp only [pay48_at]
  rfl

theorem pay53_at (r : Fin 512) (d : Fin 256) : k1_pay53 x0 x1 x2 x3 x4 x5 x6 x7 x8 x9 x10 (ix2 r d) = hRow (qRow x0 x3 x4 (lo r)) x1 x2 c2 d := by
  pointwise [k1_pay53, k1_pay20, k1_pay18, hRow, head2, score, top]
  simp only [pay45_at]
  rfl

theorem pay56_at (r : Fin 512) (d : Fin 256) : k1_pay56 x0 x1 x2 x3 x4 x5 x6 x7 x8 x9 x10 (ix2 r d) = hRow (qRow x0 x3 x4 (hi r)) x1 x2 c2 d := by
  pointwise [k1_pay56, k1_pay26, k1_pay22, k1_pay25, k1_pay21, hRow, head2, score, top]
  simp only [pay48_at]
  rfl

theorem pay57_at (r : Fin 512) (j : Fin 1024) : k1_pay57 x0 x1 x2 x3 x4 x5 x6 x7 x8 x9 x10 (ix2 r j) = xRow x0 x1 x2 x3 x4 x5 (lo r) j := by
  pointwise [k1_pay57, k1_pay27, k1_pay54, k1_pay55, k1_pay23, k1_pay24]
  simp only [pay44_at, pay45_at, pay49_at, pay51_at, pay53_at]
  unfold xRow lin
  exact congrArg _ (Finset.sum_congr rfl fun x _ => congrArg (· * x5 (ix2 x j)) (ladder (qRow x0 x3 x4 (lo r)) x1 x2 x))

theorem pay33_at (r : Fin 512) (j : Fin 1024) : k1_pay33 (k1_pay46 x0 x1 x2 x3 x4 x5 x6 x7 x8 x9 x10) (k1_pay50 x0 x1 x2 x3 x4 x5 x6 x7 x8 x9 x10) (k1_pay52 x0 x1 x2 x3 x4 x5 x6 x7 x8 x9 x10) (k1_pay56 x0 x1 x2 x3 x4 x5 x6 x7 x8 x9 x10) (k1_pay58 x0 x1 x2 x3 x4 x5 x6 x7 x8 x9 x10) (k1_pay59 x0 x1 x2 x3 x4 x5 x6 x7 x8 x9 x10) (View.ld x2 r1_7) (View.ld x5 r1_2) (ix2 r j) = xRow x0 x1 x2 x3 x4 x5 (hi r) j := by
  pointwise [k1_pay33, k1_pay58, k1_pay59, k1_pay28, k1_pay29]
  simp only [pay46_at, pay48_at, pay50_at, pay52_at, pay56_at]
  unfold xRow lin
  exact congrArg _ (Finset.sum_congr rfl fun x _ => congrArg (· * x5 (ix2 x j)) (ladder (qRow x0 x3 x4 (hi r)) x1 x2 x))

theorem pay62_at (r : Fin 512) (j : Fin 1024) : k1_pay62 x0 x1 x2 x3 x4 x5 x6 x7 x8 x9 x10 (ix2 r j) = rms (xRow x0 x1 x2 x3 x4 x5 (lo r)) (fun k => x6 (ix2 0 k)) j := by
  have e : k1_pay61 x0 x1 x2 x3 x4 x5 x6 x7 x8 x9 x10 = k1_pay31 (k1_pay44 x0 x1 x2 x3 x4 x5 x6 x7 x8 x9 x10) (k1_pay49 x0 x1 x2 x3 x4 x5 x6 x7 x8 x9 x10) (k1_pay51 x0 x1 x2 x3 x4 x5 x6 x7 x8 x9 x10) (k1_pay53 x0 x1 x2 x3 x4 x5 x6 x7 x8 x9 x10) (k1_pay54 x0 x1 x2 x3 x4 x5 x6 x7 x8 x9 x10) (k1_pay55 x0 x1 x2 x3 x4 x5 x6 x7 x8 x9 x10) (View.ld x2 r1_7) (View.ld x5 r1_2) := rfl
  have e' : k1_pay27 (k1_pay44 x0 x1 x2 x3 x4 x5 x6 x7 x8 x9 x10) (k1_pay49 x0 x1 x2 x3 x4 x5 x6 x7 x8 x9 x10) (k1_pay51 x0 x1 x2 x3 x4 x5 x6 x7 x8 x9 x10) (k1_pay53 x0 x1 x2 x3 x4 x5 x6 x7 x8 x9 x10) (k1_pay54 x0 x1 x2 x3 x4 x5 x6 x7 x8 x9 x10) (k1_pay55 x0 x1 x2 x3 x4 x5 x6 x7 x8 x9 x10) (View.ld x2 r1_7) (View.ld x5 r1_2) = k1_pay57 x0 x1 x2 x3 x4 x5 x6 x7 x8 x9 x10 := rfl
  unfold k1_pay62
  rw [e]
  unfold k1_pay31
  rw [e']
  pointwise [k1_pay32, k1_pay60, k1_pay30]
  simp only [pay57_at]
  unfold rms
  rfl

theorem pay63_at (r : Fin 512) (j : Fin 1024) : k1_pay63 x0 x1 x2 x3 x4 x5 x6 x7 x8 x9 x10 (ix2 r j) = rms (xRow x0 x1 x2 x3 x4 x5 (hi r)) (fun k => x6 (ix2 0 k)) j := by
  unfold k1_pay63 k1_pay34
  pointwise
  simp only [pay33_at]
  unfold rms
  rfl

/-- The feed-forward part and the last norm on the lower rows, from any residual `a` and its normed row. -/
theorem ffnLo (a : FVec Ideal S512x1024 .f32) (b : FVec Ideal S1x1024 .f32) (c : FVec Ideal S512x1024 .f32) (r : Fin 512) (j : Fin 1024) :
    k1_pay1 (k1_pay43 (k1_pay32 a b c) (k1_pay39 a (k1_pay32 a b c) (k1_pay35 a b c (View.ld x7 r1_8) (View.ld x8 r1_8)) (View.ld x9 r1_9) (View.ld x7 r1_10) (View.ld x8 r1_10) (View.ld x9 r1_11)) (k1_pay40 (k1_pay32 a b c) (View.ld x7 r1_12)) (View.ld x8 r1_12) (View.ld x9 r1_13) (View.ld x10 r1_1)) (ix3 0 r j) = rms (ffn3 (fun j => a (ix2 r j)) (fun j => k1_pay32 a b c (ix2 r j)) (fun k n => x7 (ix2 k n)) (fun k n => x8 (ix2 k n)) (fun n j => x9 (ix2 n j))) (fun k => x10 (ix2 0 k)) j := by
  pointwise [k1_pay1, k1_pay43, k1_pay39, k1_pay40, k1_pay35, rms, ffn3, hid, swi, lin]
  rfl

/-- The feed-forward part and the last norm on the upper rows. -/
theorem ffnHi (a : FVec Ideal S512x1024 .f32) (h : FVec Ideal S512x1024 .bf16) (r : Fin 512) (j : Fin 1024) :
    k1_pay2 (k1_pay41 (k1_pay36 a h (View.ld x7 r1_8) (constant S512x1024 .f32 0x00000000#32) (View.ld x8 r1_8) (View.ld x9 r1_9)) (k1_pay37 h (View.ld x7 r1_10)) (k1_pay38 h (View.ld x8 r1_10)) (View.ld x9 r1_11)) (k1_pay42 h (View.ld x7 r1_12) (View.ld x8 r1_12)) (View.ld x9 r1_13) (View.ld x10 r1_1) (ix3 0 r j) = rms (ffn3 (fun j => a (ix2 r j)) (fun j => h (ix2 r j)) (fun k n => x7 (ix2 k n)) (fun k n => x8 (ix2 k n)) (fun n j => x9 (ix2 n j))) (fun k => x10 (ix2 0 k)) j := by
  pointwise [k1_pay2, k1_pay41, k1_pay36, k1_pay37, k1_pay38, k1_pay42, rms, ffn3, hid, swi, lin]
  rfl

/-- The block's result row `r`, from the operands' blocks. -/
def blockRow (x0 : Vec Ideal S1x1024x1024 .f32) (x1 x2 : Vec Ideal S1x256x1024 .bf16) (x3 : Vec Ideal S1x1024 .f32)
    (x4 x5 : Vec Ideal S1024x1024 .bf16) (x6 : Vec Ideal S1x1024 .f32) (x7 x8 : Vec Ideal S1024x2816 .bf16)
    (x9 : Vec Ideal S2816x1024 .bf16) (x10 : Vec Ideal S1x1024 .f32) (r : Fin 1024) : Fin 1024 → EReal :=
  rms (ffn3 (xRow x0 x1 x2 x3 x4 x5 r) (rms (xRow x0 x1 x2 x3 x4 x5 r) (fun k => x6 (ix2 0 k)))
    (fun k n => x7 (ix2 k n)) (fun k n => x8 (ix2 k n)) (fun n j => x9 (ix2 n j))) (fun k => x10 (ix2 0 k))

theorem outLo_at (r : Fin 512) (j : Fin 1024) :
    k1_pay1 (k1_pay43 (k1_pay62 x0 x1 x2 x3 x4 x5 x6 x7 x8 x9 x10) (k1_pay39 (k1_pay57 x0 x1 x2 x3 x4 x5 x6 x7 x8 x9 x10) (k1_pay62 x0 x1 x2 x3 x4 x5 x6 x7 x8 x9 x10) (k1_pay35 (k1_pay57 x0 x1 x2 x3 x4 x5 x6 x7 x8 x9 x10) (k1_pay60 x0 x1 x2 x3 x4 x5 x6 x7 x8 x9 x10) (k1_pay61 x0 x1 x2 x3 x4 x5 x6 x7 x8 x9 x10) (View.ld x7 r1_8) (View.ld x8 r1_8)) (View.ld x9 r1_9) (View.ld x7 r1_10) (View.ld x8 r1_10) (View.ld x9 r1_11)) (k1_pay40 (k1_pay62 x0 x1 x2 x3 x4 x5 x6 x7 x8 x9 x10) (View.ld x7 r1_12)) (View.ld x8 r1_12) (View.ld x9 r1_13) (View.ld x10 r1_1)) (ix3 0 r j) = blockRow x0 x1 x2 x3 x4 x5 x6 x7 x8 x9 x10 (lo r) j := by
  have h := ffnLo x7 x8 x9 x10 (k1_pay57 x0 x1 x2 x3 x4 x5 x6 x7 x8 x9 x10) (k1_pay60 x0 x1 x2 x3 x4 x5 x6 x7 x8 x9 x10) (k1_pay61 x0 x1 x2 x3 x4 x5 x6 x7 x8 x9 x10) r j
  have e : k1_pay32 (k1_pay57 x0 x1 x2 x3 x4 x5 x6 x7 x8 x9 x10) (k1_pay60 x0 x1 x2 x3 x4 x5 x6 x7 x8 x9 x10) (k1_pay61 x0 x1 x2 x3 x4 x5 x6 x7 x8 x9 x10) = k1_pay62 x0 x1 x2 x3 x4 x5 x6 x7 x8 x9 x10 := rfl
  rw [e] at h
  simp only [pay57_at, pay62_at] at h
  exact h

theorem outHi_at (r : Fin 512) (j : Fin 1024) :
    k1_pay2 (k1_pay41 (k1_pay36 (k1_pay33 (k1_pay46 x0 x1 x2 x3 x4 x5 x6 x7 x8 x9 x10) (k1_pay50 x0 x1 x2 x3 x4 x5 x6 x7 x8 x9 x10) (k1_pay52 x0 x1 x2 x3 x4 x5 x6 x7 x8 x9 x10) (k1_pay56 x0 x1 x2 x3 x4 x5 x6 x7 x8 x9 x10) (k1_pay58 x0 x1 x2 x3 x4 x5 x6 x7 x8 x9 x10) (k1_pay59 x0 x1 x2 x3 x4 x5 x6 x7 x8 x9 x10) (View.ld x2 r1_7) (View.ld x5 r1_2)) (k1_pay63 x0 x1 x2 x3 x4 x5 x6 x7 x8 x9 x10) (View.ld x7 r1_8) (constant S512x1024 .f32 0x00000000#32) (View.ld x8 r1_8) (View.ld x9 r1_9)) (k1_pay37 (k1_pay63 x0 x1 x2 x3 x4 x5 x6 x7 x8 x9 x10) (View.ld x7 r1_10)) (k1_pay38 (k1_pay63 x0 x1 x2 x3 x4 x5 x6 x7 x8 x9 x10) (View.ld x8 r1_10)) (View.ld x9 r1_11)) (k1_pay42 (k1_pay63 x0 x1 x2 x3 x4 x5 x6 x7 x8 x9 x10) (View.ld x7 r1_12) (View.ld x8 r1_12)) (View.ld x9 r1_13) (View.ld x10 r1_1) (ix3 0 r j) = blockRow x0 x1 x2 x3 x4 x5 x6 x7 x8 x9 x10 (hi r) j := by
  have h := ffnHi x7 x8 x9 x10 (k1_pay33 (k1_pay46 x0 x1 x2 x3 x4 x5 x6 x7 x8 x9 x10) (k1_pay50 x0 x1 x2 x3 x4 x5 x6 x7 x8 x9 x10) (k1_pay52 x0 x1 x2 x3 x4 x5 x6 x7 x8 x9 x10) (k1_pay56 x0 x1 x2 x3 x4 x5 x6 x7 x8 x9 x10) (k1_pay58 x0 x1 x2 x3 x4 x5 x6 x7 x8 x9 x10) (k1_pay59 x0 x1 x2 x3 x4 x5 x6 x7 x8 x9 x10) (View.ld x2 r1_7) (View.ld x5 r1_2)) (k1_pay63 x0 x1 x2 x3 x4 x5 x6 x7 x8 x9 x10) r j
  simp only [pay33_at, pay63_at] at h
  exact h

/-- What one grid point leaves in the result's block: each row by `blockRow`. -/

theorem out_at (y : S1x1024x1024.Idx) :
    out1_11 x0 x1 x2 x3 x4 x5 x6 x7 x8 x9 x10 y = blockRow x0 x1 x2 x3 x4 x5 x6 x7 x8 x9 x10 (y 1) (y 2) := by
  canon_tiles x h
  · have hx : x = ix3 0 (x 1) (x 2) := by idx_ext
    rw [hx]
    refine (outHi_at x0 x1 x2 x3 x4 x5 x6 x7 x8 x9 x10 (x 1) (x 2)).trans ?_
    exact congrArg₂ (blockRow x0 x1 x2 x3 x4 x5 x6 x7 x8 x9 x10) (Fin.ext h1.symm) (Fin.ext h2.symm)
  · have hx : x = ix3 0 (x 1) (x 2) := by idx_ext
    rw [hx]
    refine (outLo_at x0 x1 x2 x3 x4 x5 x6 x7 x8 x9 x10 (x 1) (x 2)).trans ?_
    exact congrArg₂ (blockRow x0 x1 x2 x3 x4 x5 x6 x7 x8 x9 x10) (Fin.ext h1.symm) (Fin.ext h2.symm)

end Cert.KernelIdeal.Block
end
-- ==== Proof.KeyBlock.lean ====
/- What one grid point of the first call computes: the keys of one batch's memory, scaled by the named constant, and its
   values, entry by entry. -/
module

public import proofs.«01_k».proof.Proof.Gen.KernelIdeal.Frame
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal.Gen Cert.Layer

variable (x0 : Vec Ideal S1x256x1024 .f32) (x1 : Vec Ideal S1x1024 .f32) (x2 x3 : Vec Ideal S1024x1024 .f32)
  (x4 : Vec Ideal S256x2560 .f32) (x5 : Vec Ideal S256x1 .f32) (x6 : Vec Ideal S256x1024 .f32)

/-- The scale of the keys: `(1/16) · (log 2)⁻¹`. -/
def kScale : EReal := (((1 / 16) * (Real.log 2)⁻¹ : ℝ) : EReal)

/-- The normed row `m` of the memory block. -/
def memRow (m : Fin 256) : Fin 1024 → EReal := rms (fun k => x0 (ix3 0 m k)) (fun k => x1 (ix2 0 k))

theorem keys_at (m : Fin 256) (j : Fin 1024) :
    k0_pay4 (View.ld x0 r0_0) (View.ld x1 r0_1) (View.ld x2 r0_2) (ix3 0 m j)
      = lin (memRow x0 x1 m) (fun k j => x2 (ix2 k j)) j * kScale := by
  pointwise [k0_pay4, k0_pay3, lin, memRow, rms]
  rfl

theorem vals_at (m : Fin 256) (j : Fin 1024) :
    k0_pay5 (View.ld x0 r0_0) (View.ld x1 r0_1) (View.ld x3 r0_2) (ix3 0 m j)
      = lin (memRow x0 x1 m) (fun k j => x3 (ix2 k j)) j := by
  pointwise [k0_pay5, k0_pay3, lin, memRow, rms]
  rfl

/-- The block of scaled keys. -/
theorem out7_at (y : S1x256x1024.Idx) :
    out0_7 x0 x1 x2 x3 x4 x5 x6 y = lin (memRow x0 x1 (y 1)) (fun k j => x2 (ix2 k j)) (y 2) * kScale := by
  canon_tiles x h
  have hx : x = ix3 0 (y 1) (y 2) := by idx_ext
  rw [hx]
  exact keys_at x0 x1 x2 (y 1) (y 2)

/-- The block of values. -/
theorem out8_at (y : S1x256x1024.Idx) :
    out0_8 x0 x1 x2 x3 x4 x5 x6 y = lin (memRow x0 x1 (y 1)) (fun k j => x3 (ix2 k j)) (y 2) := by
  canon_tiles x h
  have hx : x = ix3 0 (y 1) (y 2) := by idx_ext
  rw [hx]
  exact vals_at x0 x1 x3 (y 1) (y 2)

end Cert.KernelIdeal.Block
end
-- ==== Proof.Arrays.lean ====
/- What the optimised program's arrays hold after its two calls, as whole arrays: the scaled keys, the values and the
   result, from the arrays that each call reads. -/
module

public import proofs.«01_k».proof.Proof.Block
public import proofs.«01_k».proof.Proof.KeyBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal.Gen Cert.KernelIdeal.Block

variable (V : (c : Dev nD) → (b : Ref sig .tc) → Buf (Elt Ideal) ((c : Thread nD τ).loc b)) (c : Dev nD)

/-- The first call's blocks: batch `t` of the memory and of the keys and values, and whole weights. -/
theorem idx0 : ∀ t : Fin cfg0.N, win0_0.index t = ![t.val, 0, 0] ∧ win0_1.index t = ![0, 0] ∧ win0_2.index t = ![0, 0]
    ∧ win0_3.index t = ![0, 0] ∧ win0_7.index t = ![t.val, 0, 0] ∧ win0_8.index t = ![t.val, 0, 0] :=
  (by decide +kernel : ∀ t : Fin grid0.N, _)

/-- The second call's blocks: 1024 rows of one batch, that batch's keys and values, and whole weights. -/
theorem idx1 : ∀ t : Fin cfg1.N, win1_0.index t = ![t.val / 8, t.val % 8, 0] ∧ win1_1.index t = ![t.val / 8, 0, 0]
    ∧ win1_2.index t = ![t.val / 8, 0, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![t.val / 8, t.val % 8, 0] :=
  (by decide +kernel : ∀ t : Fin grid1.N, _)

/-! Each window's block as a part of its array. -/

theorem mem_blk (t : Fin cfg0.N) (m : Fin 256) (k : Fin 1024) :
    iblk0 V c 0 t (ix3 0 m k) = V c main_arg1 (ix3 t m k) := by blk_ext [iblk0, idx0 t]
theorem memGain_blk (t : Fin cfg0.N) (k : Fin 1) (j : Fin 1024) :
    iblk0 V c 1 t (ix2 k j) = V c main_v1 (ix2 k j) := by blk_ext [iblk0, idx0 t]
theorem wk_blk (t : Fin cfg0.N) (k : Fin 1024) (j : Fin 1024) :
    iblk0 V c 2 t (ix2 k j) = V c main_v2 (ix2 k j) := by blk_ext [iblk0, idx0 t]
theorem wv_blk (t : Fin cfg0.N) (k : Fin 1024) (j : Fin 1024) :
    iblk0 V c 3 t (ix2 k j) = V c main_v3 (ix2 k j) := by blk_ext [iblk0, idx0 t]

/-- The batch of a grid point of the second call. -/
def bat (t : Fin cfg1.N) : Fin 4 := ⟨t.val / 8, by have : t.val < 32 := t.isLt; omega⟩
/-- The row of its batch that row `r` of the block of a grid point is. -/
def tok (t : Fin cfg1.N) (r : Fin 1024) : Fin 8192 := ⟨t.val % 8 * 1024 + r.val, by omega⟩

theorem x_blk (t : Fin cfg1.N) (r k : Fin 1024) :
    iblk1 V c 0 t (ix3 0 r k) = V c main_arg0 (ix3 (bat t) (tok t r) k) := by blk_ext [iblk1, idx1 t, bat, tok]
theorem keys_blk (t : Fin cfg1.N) (m : Fin 256) (k : Fin 1024) :
    iblk1 V c 1 t (ix3 0 m k) = V c main_v8_0 (ix3 (bat t) m k) := by blk_ext [iblk1, idx1 t, bat]
theorem vals_blk (t : Fin cfg1.N) (m : Fin 256) (k : Fin 1024) :
    iblk1 V c 2 t (ix3 0 m k) = V c main_v8_1 (ix3 (bat t) m k) := by blk_ext [iblk1, idx1 t, bat]
theorem crossGain_blk (t : Fin cfg1.N) (k : Fin 1) (j : Fin 1024) :
    iblk1 V c 3 t (ix2 k j) = V c main_v10 (ix2 k j) := by blk_ext [iblk1, idx1 t]
theorem wq_blk (t : Fin cfg1.N) (k : Fin 1024) (j : Fin 1024) :
    iblk1 V c 4 t (ix2 k j) = V c main_arg7 (ix2 k j) := by blk_ext [iblk1, idx1 t]
theorem wo_blk (t : Fin cfg1.N) (k : Fin 1024) (j : Fin 1024) :
    iblk1 V c 5 t (ix2 k j) = V c main_arg10 (ix2 k j) := by blk_ext [iblk1, idx1 t]
theorem ffnGain_blk (t : Fin cfg1.N) (k : Fin 1) (j : Fin 1024) :
    iblk1 V c 6 t (ix2 k j) = V c main_v12 (ix2 k j) := by blk_ext [iblk1, idx1 t]
theorem wg_blk (t : Fin cfg1.N) (k : Fin 1024) (j : Fin 2816) :
    iblk1 V c 7 t (ix2 k j) = V c main_arg12 (ix2 k j) := by blk_ext [iblk1, idx1 t]
theorem wu_blk (t : Fin cfg1.N) (k : Fin 1024) (j : Fin 2816) :
    iblk1 V c 8 t (ix2 k j) = V c main_arg13 (ix2 k j) := by blk_ext [iblk1, idx1 t]
theorem wd_blk (t : Fin cfg1.N) (k : Fin 2816) (j : Fin 1024) :
    iblk1 V c 9 t (ix2 k j) = V c main_arg14 (ix2 k j) := by blk_ext [iblk1, idx1 t]
theorem lastGain_blk (t : Fin cfg1.N) (k : Fin 1) (j : Fin 1024) :
    iblk1 V c 10 t (ix2 k j) = V c main_v13 (ix2 k j) := by blk_ext [iblk1, idx1 t]

/-- keys of a grid point's block, by rows of the arrays. -/
theorem keysRow_eq (t : Fin cfg0.N) (m : Fin 256) :
    Layer.lin (memRow (iblk0 V c 0 t) (iblk0 V c 1 t) m) (fun k j => (iblk0 V c 2 t : Vec Ideal S1024x1024 .f32) (ix2 k j))
      = Layer.lin (n := 1024) (Layer.rms (fun k => V c main_arg1 (ix3 t m k)) (fun k => V c main_v1 (ix2 0 k))) (fun k j => V c main_v2 (ix2 k j)) := by
  simp only [← mem_blk, ← memGain_blk V c t, ← wk_blk V c t]
  rfl

/-- The keys, scaled: the normed memory row times the key matrix, times the scale. -/
theorem keys : (dat0 V c).arrAt 7 cfg0.N = fun i : S4x256x1024.Idx =>
    Layer.lin (n := 1024) (Layer.rms (fun k => V c main_arg1 (ix3 (i 0) (i 1) k)) (fun k => V c main_v1 (ix2 0 k)))
      (fun k j => V c main_v2 (ix2 k j)) (i 2) * kScale := by
  refine (dat0 V c).arrAt_eq_of_covers 7 _ (by decide +kernel) fun t hf y => ?_
  have e : (((cfg0.win 7).blk t).view.emb y : S4x256x1024.Idx) = ix3 t (y 1) (y 2) := by blk_ext [idx0 t]
  blk_simp
  rw [after0_7, out7_at, e]
  exact congrArg (· * kScale) (congrFun (keysRow_eq V c t (y 1)) (y 2))

/-- vals of a grid point's block, by rows of the arrays. -/
theorem valsRow_eq (t : Fin cfg0.N) (m : Fin 256) :
    Layer.lin (memRow (iblk0 V c 0 t) (iblk0 V c 1 t) m) (fun k j => (iblk0 V c 3 t : Vec Ideal S1024x1024 .f32) (ix2 k j))
      = Layer.lin (n := 1024) (Layer.rms (fun k => V c main_arg1 (ix3 t m k)) (fun k => V c main_v1 (ix2 0 k))) (fun k j => V c main_v3 (ix2 k j)) := by
  simp only [← mem_blk, ← memGain_blk V c t, ← wv_blk V c t]
  rfl

/-- The values: the normed memory row times the value matrix. -/
theorem vals : (dat0 V c).arrAt 8 cfg0.N = fun i : S4x256x1024.Idx =>
    Layer.lin (n := 1024) (Layer.rms (fun k => V c main_arg1 (ix3 (i 0) (i 1) k)) (fun k => V c main_v1 (ix2 0 k)))
      (fun k j => V c main_v3 (ix2 k j)) (i 2) := by
  refine (dat0 V c).arrAt_eq_of_covers 8 _ (by decide +kernel) fun t hf y => ?_
  have e : (((cfg0.win 8).blk t).view.emb y : S4x256x1024.Idx) = ix3 t (y 1) (y 2) := by blk_ext [idx0 t]
  blk_simp
  rw [after0_8, out8_at, e]
  exact congrFun (valsRow_eq V c t (y 1)) (y 2)

/-- A grid point's block of the result, by rows of the arrays. -/
theorem blockRow_eq (t : Fin cfg1.N) (r : Fin 1024) :
    blockRow (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) r
    = Layer.outRow2 (fun k => V c main_arg0 (ix3 (bat t) (tok t r) k)) (fun m j => V c main_v8_0 (ix3 (bat t) m j))
      (fun m j => V c main_v8_1 (ix3 (bat t) m j)) (fun k => V c main_v10 (ix2 0 k)) (fun k j => V c main_arg7 (ix2 k j))
      (fun k j => V c main_arg10 (ix2 k j)) (fun k => V c main_v12 (ix2 0 k)) (fun k n => V c main_arg12 (ix2 k n))
      (fun k n => V c main_arg13 (ix2 k n)) (fun n j => V c main_arg14 (ix2 n j)) (fun k => V c main_v13 (ix2 0 k)) := by
  simp only [← x_blk, ← keys_blk V c t, ← vals_blk V c t, ← crossGain_blk V c t, ← wq_blk V c t, ← wo_blk V c t, ← ffnGain_blk V c t,
    ← wg_blk V c t, ← wu_blk V c t, ← wd_blk V c t, ← lastGain_blk V c t]
  rfl

/-- The result: each row by `Layer.outRow2`. -/
theorem result : (dat1 V c).arrAt 11 cfg1.N = fun i : S4x8192x1024.Idx =>
    Layer.outRow2 (fun k => V c main_arg0 (ix3 (i 0) (i 1) k)) (fun m j => V c main_v8_0 (ix3 (i 0) m j))
      (fun m j => V c main_v8_1 (ix3 (i 0) m j)) (fun k => V c main_v10 (ix2 0 k)) (fun k j => V c main_arg7 (ix2 k j))
      (fun k j => V c main_arg10 (ix2 k j)) (fun k => V c main_v12 (ix2 0 k)) (fun k n => V c main_arg12 (ix2 k n))
      (fun k n => V c main_arg13 (ix2 k n)) (fun n j => V c main_arg14 (ix2 n j)) (fun k => V c main_v13 (ix2 0 k)) (i 2) := by
  refine (dat1 V c).arrAt_eq_of_covers 11 _ (by decide +kernel) fun t hf y => ?_
  have e : (((cfg1.win 11).blk t).view.emb y : S4x8192x1024.Idx) = ix3 (bat t) (tok t (y 1)) (y 2) := by
    blk_ext [idx1 t, bat, tok]
  blk_simp
  rw [after1_11, out_at, e]
  exact congrFun (blockRow_eq V c t (y 1)) (y 2)

end Cert.KernelIdeal.Arrays
end
-- ==== Proof.KernelValue.lean ====
/- The optimised program's result as a function of its arguments: the arrays of the two calls, read back to the launch. -/
module

public import proofs.«01_k».proof.Proof.Arrays
public import Idealize.ShloMosaic.Lib.Claim

@[expose] public section

set_option maxRecDepth 16384

noncomputable section

open Idealize.ShloMosaic Idealize.ShloMosaic.TcCoe Idealize.SL.Sem

namespace Cert.KernelIdeal.RunValue

open Cert.KernelIdeal.Gen Cert.KernelIdeal.Block

variable (m : (ℓ : Loc nD τ sig) → Buf (Elt Ideal) ℓ) (ρ : Dev nD → PrngReg) (c : Dev nD)

/-- The second call's gains of the norm before the attention. -/
theorem crossGain (k : Fin 1024) : V3 m ρ c main_v10 (ix2 0 k) = m ((c : Thread nD τ).loc main_arg5) (ix2 0 k) := by
  have e : V3 m ρ c main_v10 = shapeCast S1x1024 (shapeCast S1024 (W2 m ρ c (Proc.devRef .tc main_arg5)) shapeCasts_S1x1024_S1024) shapeCasts_S1024_S1x1024 := by
    show StableHlo.after hostOps1 (W2 m ρ c) _ = _
    after_results <;> rfl
  rw [e, W2_args m ρ c main_arg5 (by decide)]
  pointwise

/-- The second call's gains of the norm before the feed-forward part. -/
theorem ffnGain (k : Fin 1024) : V3 m ρ c main_v12 (ix2 0 k) = m ((c : Thread nD τ).loc main_arg11) (ix2 0 k) := by
  have e : V3 m ρ c main_v12 = shapeCast S1x1024 (shapeCast S1024 (W2 m ρ c (Proc.devRef .tc main_arg11)) shapeCasts_S1x1024_S1024) shapeCasts_S1024_S1x1024 := by
    show StableHlo.after hostOps1 (W2 m ρ c) _ = _
    after_results <;> rfl
  rw [e, W2_args m ρ c main_arg11 (by decide)]
  pointwise

/-- The second call's gains of the last norm. -/
theorem lastGain (k : Fin 1024) : V3 m ρ c main_v13 (ix2 0 k) = m ((c : Thread nD τ).loc main_arg15) (ix1 k) := by
  have e : V3 m ρ c main_v13 = shapeCast S1x1024 (W2 m ρ c (Proc.devRef .tc main_arg15)) shapeCasts_S1024_S1x1024 := by
    show StableHlo.after hostOps1 (W2 m ρ c) _ = _
    after_results <;> rfl
  rw [e, W2_args m ρ c main_arg15 (by decide)]
  pointwise

/-- The first call's gains of the memory's norm. -/
theorem memGain (k : Fin 1024) : V1 m ρ c main_v1 (ix2 0 k) = m ((c : Thread nD τ).loc main_arg6) (ix2 0 k) := by
  have e : V1 m ρ c main_v1 = shapeCast S1x1024 (shapeCast S1024 (W0 m ρ c (Proc.devRef .tc main_arg6)) shapeCasts_S1x1024_S1024) shapeCasts_S1024_S1x1024 := by
    show StableHlo.after hostOps0 (W0 m ρ c) _ = _
    after_results <;> rfl
  rw [e, W0_args m ρ c main_arg6 (by decide)]
  pointwise

/-- The first call's key matrix. -/
theorem wk (k j : Fin 1024) : V1 m ρ c main_v2 (ix2 k j) = m ((c : Thread nD τ).loc main_arg8) (ix3 0 k j) := by
  have e : V1 m ρ c main_v2 = shapeCast S1024x1024 (W0 m ρ c (Proc.devRef .tc main_arg8)) shapeCasts_S1x1024x1024_S1024x1024 := by
    show StableHlo.after hostOps0 (W0 m ρ c) _ = _
    after_results <;> rfl
  rw [e, W0_args m ρ c main_arg8 (by decide)]
  pointwise

/-- The first call's value matrix. -/
theorem wv (k j : Fin 1024) : V1 m ρ c main_v3 (ix2 k j) = m ((c : Thread nD τ).loc main_arg9) (ix3 0 k j) := by
  have e : V1 m ρ c main_v3 = shapeCast S1024x1024 (W0 m ρ c (Proc.devRef .tc main_arg9)) shapeCasts_S1x1024x1024_S1024x1024 := by
    show StableHlo.after hostOps0 (W0 m ρ c) _ = _
    after_results <;> rfl
  rw [e, W0_args m ρ c main_arg9 (by decide)]
  pointwise

/-- The normed row `r` of batch `b`'s memory. -/
def memRow' (b : Fin 4) (r : Fin 256) : Fin 1024 → EReal :=
  Layer.rms (fun k => m ((c : Thread nD τ).loc main_arg1) (ix3 b r k)) (fun k => m ((c : Thread nD τ).loc main_arg6) (ix2 0 k))

/-- The keys of batch `b`. -/
def keyRow (b : Fin 4) (r : Fin 256) : Fin 1024 → EReal := Layer.lin (memRow' m c b r) (fun k j => m ((c : Thread nD τ).loc main_arg8) (ix3 0 k j))

/-- The values of batch `b`. -/
def valRow (b : Fin 4) (r : Fin 256) : Fin 1024 → EReal := Layer.lin (memRow' m c b r) (fun k j => m ((c : Thread nD τ).loc main_arg9) (ix3 0 k j))

/-- The second call reads the scaled keys. -/
theorem keys_read (b : Fin 4) (r : Fin 256) (j : Fin 1024) :
    V3 m ρ c main_v8_0 (ix3 b r j) = keyRow m c b r j * kScale := by
  have e : V3 m ρ c main_v8_0 = (dat0 (V1 m ρ) c).arrAt 7 cfg0.N := (W3_of m ρ c main_v8_0 (by decide)).trans (W2_arr m ρ c 7)
  rw [e, Arrays.keys]
  unfold keyRow memRow'
  simp only [← wk m ρ c, ← memGain m ρ c, ← W1_args m ρ c main_arg1 (by decide)]
  rfl

/-- The second call reads the values. -/
theorem vals_read (b : Fin 4) (r : Fin 256) (j : Fin 1024) :
    V3 m ρ c main_v8_1 (ix3 b r j) = valRow m c b r j := by
  have e : V3 m ρ c main_v8_1 = (dat0 (V1 m ρ) c).arrAt 8 cfg0.N := (W3_of m ρ c main_v8_1 (by decide)).trans (W2_arr m ρ c 8)
  rw [e, Arrays.vals]
  unfold valRow memRow'
  simp only [← wv m ρ c, ← memGain m ρ c, ← W1_args m ρ c main_arg1 (by decide)]
  rfl

/-- The optimised program's result: row by row, `Layer.outRow2` of the arguments. -/
theorem value : W4 m ρ c (Proc.devRef .tc main_v14) = fun i : S4x8192x1024.Idx =>
    Layer.outRow2 (fun k => m ((c : Thread nD τ).loc main_arg0) (ix3 (i 0) (i 1) k)) (fun r j => keyRow m c (i 0) r j * kScale) (valRow m c (i 0))
      (fun k => m ((c : Thread nD τ).loc main_arg5) (ix2 0 k)) (fun k j => m ((c : Thread nD τ).loc main_arg7) (ix2 k j)) (fun k j => m ((c : Thread nD τ).loc main_arg10) (ix2 k j))
      (fun k => m ((c : Thread nD τ).loc main_arg11) (ix2 0 k)) (fun k n => m ((c : Thread nD τ).loc main_arg12) (ix2 k n))
      (fun k n => m ((c : Thread nD τ).loc main_arg13) (ix2 k n)) (fun n j => m ((c : Thread nD τ).loc main_arg14) (ix2 n j)) (fun k => m ((c : Thread nD τ).loc main_arg15) (ix1 k)) (i 2) := by
  have e : W4 m ρ c (Proc.devRef .tc main_v14) = (dat1 (V3 m ρ) c).arrAt 11 cfg1.N := W4_arr m ρ c 11
  rw [e, Arrays.result]
  funext i
  exact congrFun (Layer.outRow2_congr
    (funext fun k => congrFun (W3_args m ρ c main_arg0 (by decide)) (ix3 (i 0) (i 1) k))
    (funext fun r => funext fun j => keys_read m ρ c (i 0) r j) (funext fun r => funext fun j => vals_read m ρ c (i 0) r j)
    (funext fun k => crossGain m ρ c k)
    (funext fun k => funext fun j => congrFun (W3_args m ρ c main_arg7 (by decide)) (ix2 k j))
    (funext fun k => funext fun j => congrFun (W3_args m ρ c main_arg10 (by decide)) (ix2 k j))
    (funext fun k => ffnGain m ρ c k)
    (funext fun k => funext fun n => congrFun (W3_args m ρ c main_arg12 (by decide)) (ix2 k n))
    (funext fun k => funext fun n => congrFun (W3_args m ρ c main_arg13 (by decide)) (ix2 k n))
    (funext fun n => funext fun j => congrFun (W3_args m ρ c main_arg14 (by decide)) (ix2 n j))
    (funext fun k => lastGain m ρ c k)) (i 2)

end Cert.KernelIdeal.RunValue
end
-- ==== Proof.KernelRun.lean ====
/- The optimised program's run: it ends with its result buffer holding what its second call leaves, and with its
   arguments unchanged. -/
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.KernelIdeal.RunValue

open Cert.KernelIdeal.Gen

variable {F : FTy → Type} [FloatOps F] [Named F]
variable (m : (ℓ : Loc nD τ sig) → Buf (Elt F) ℓ) (ρ : Dev nD → PrngReg)

set_option backward.isDefEq.respectTransparency.types false in
/-- From any memory with zero counters the program ends; its result buffer holds what `W4` says, its arguments are unchanged. -/
theorem run : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValue
end
-- ==== Proof.RefRows.lean ====
/- The reference's result as a function of its arguments: each named stage of its run read at an index, row by row. -/
module

public import proofs.«01_k».proof.Proof.Gen.ReferenceIdeal.Run
public import proofs.«01_k».proof.Proof.Rows
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen Cert.ReferenceIdeal.Value Cert.Layer

variable (V0 : Valuation τ sig (Elt Ideal))

/-! The arguments as arrays of extended reals. -/

def aX (b : Fin 4) (s : Fin 8192) (k : Fin 1024) : EReal := V0 (Proc.devRef .tc main_arg0) (ix3 b s k)
def aMem (b : Fin 4) (r : Fin 256) (k : Fin 1024) : EReal := V0 (Proc.devRef .tc main_arg1) (ix3 b r k)
def aGc (k : Fin 1024) : EReal := V0 (Proc.devRef .tc main_arg5) (ix2 0 k)
def aGm (k : Fin 1024) : EReal := V0 (Proc.devRef .tc main_arg6) (ix2 0 k)
def aWq (k j : Fin 1024) : EReal := V0 (Proc.devRef .tc main_arg7) (ix2 k j)
def aWk (k j : Fin 1024) : EReal := V0 (Proc.devRef .tc main_arg8) (ix3 0 k j)
def aWv (k j : Fin 1024) : EReal := V0 (Proc.devRef .tc main_arg9) (ix3 0 k j)
def aWo (k j : Fin 1024) : EReal := V0 (Proc.devRef .tc main_arg10) (ix2 k j)
def aGf (k : Fin 1024) : EReal := V0 (Proc.devRef .tc main_arg11) (ix2 0 k)
def aWg (k : Fin 1024) (n : Fin 2816) : EReal := V0 (Proc.devRef .tc main_arg12) (ix2 k n)
def aWu (k : Fin 1024) (n : Fin 2816) : EReal := V0 (Proc.devRef .tc main_arg13) (ix2 k n)
def aWd (n : Fin 2816) (j : Fin 1024) : EReal := V0 (Proc.devRef .tc main_arg14) (ix2 n j)
def aGl (k : Fin 1024) : EReal := V0 (Proc.devRef .tc main_arg15) (ix1 k)

/-- The queries of token `s` of batch `b`. -/
def q (b : Fin 4) (s : Fin 8192) : Fin 1024 → EReal := lin (rms (aX V0 b s) (aGc V0)) (aWq V0)
/-- The keys of batch `b`. -/
def K (b : Fin 4) (r : Fin 256) : Fin 1024 → EReal := lin (rms (aMem V0 b r) (aGm V0)) (aWk V0)
/-- The values of batch `b`. -/
def Vv (b : Fin 4) (r : Fin 256) : Fin 1024 → EReal := lin (rms (aMem V0 b r) (aGm V0)) (aWv V0)
/-- The scaled scores. -/
def sc (b h : Fin 4) (s : Fin 8192) (r : Fin 256) : EReal :=
  score (fun e => q V0 b s (col h e)) (fun r e => K V0 b r (col h e)) r * cSixteenth

/-- The memory's normed row. -/
theorem v32_at (b : Fin 4) (r : Fin 256) (j : Fin 1024) :
    res_main_v32 V0 (ix3 b r j) = rms (aMem V0 b r) (aGm V0) j := by
  unfold res_main_v32
  clean_types
  pointwise [rms, aMem, aGm]
  rfl

/-- The queries' products with the keys, head by head, from any normed rows. -/
theorem v43_at (b h : Fin 4) (s : Fin 8192) (r : Fin 256) :
    res_main_v43 V0 (ix4 b h s r) = sc V0 b h s r := by
  have e : res_main_v43 V0 (ix4 b h s r) = score (fun e => q V0 b s (col h e))
      (fun r e => lin (fun k => res_main_v32 V0 (ix3 b r k)) (aWk V0) (col h e)) r * cSixteenth := by
    unfold res_main_v43
    clean_types
    pointwise [score, q, lin, rms]
    rfl
  rw [e]
  simp only [v32_at]
  rfl

/-- The largest of each row of scores. -/
theorem red_at (Z : FVec Ideal S4x4x8192x256 .f32) (b h : Fin 4) (s : Fin 8192) :
    Host.reduce FloatOps.maximumf Z (constant S_ .f32 0xFF800000#32) reducesTo_S4x4x8192x256_S4x4x8192_d3 h_S_ (ix3 b h s) = top (fun r => Z (ix4 b h s r)) := by
  clean_types
  pointwise
  rfl

/-- The largest of each row of scores, and of the value the maximum starts from. -/
theorem max_at (M : FVec Ideal S4x4x8192 .f32) (b h : Fin 4) (s : Fin 8192) :
    maximumf (broadcastInDim S4x4x8192 ![] bcast_S_S4x4x8192 (constant S_ .f32 0xFF800000#32)) M (ix3 b h s) = max cBot (M (ix3 b h s)) := by
  clean_types
  pointwise
  rfl

/-- The exponentials of the scores less one number per row. -/
theorem exp_at (Z : FVec Ideal S4x4x8192x256 .f32) (M : FVec Ideal S4x4x8192 .f32) (b h : Fin 4) (s : Fin 8192) (r : Fin 256) :
    Host.exp (subf Z (broadcastInDim S4x4x8192x256 ![0, 1, 2, 3] bcast_S4x4x8192x1_S4x4x8192x256_0_1_2_3 (broadcastInDim S4x4x8192x1 ![0, 1, 2] bcast_S4x4x8192_S4x4x8192x1_0_1_2 M))) (ix4 b h s r)
      = Ideal.exp (Z (ix4 b h s r) - M (ix3 b h s)) := by
  clean_types
  pointwise
  try rfl

/-- The weights before their division. -/
theorem v50_at (b h : Fin 4) (s : Fin 8192) (r : Fin 256) :
    res_main_v50 V0 (ix4 b h s r) = Ideal.exp (sc V0 b h s r - top (sc V0 b h s)) := by
  unfold res_main_v50
  rw [exp_at, max_at, red_at, bot_top, v43_at, funext (v43_at V0 b h s)]

/-- The rows after the attention, from any weights and any normed memory rows. -/
theorem out_at (x : FVec Ideal S4x8192x1024 .f32) (n : FVec Ideal S4x256x1024 .f32) (wv : FVec Ideal S1x1024x1024 .f32)
    (p : FVec Ideal S4x4x8192x256 .f32) (wo : FVec Ideal S1024x1024 .bf16) (b : Fin 4) (s : Fin 8192) (j : Fin 1024) :
    addf x (Host.dotGeneral dot_S4x8192x1024_S1024x1024_S4x8192x1024_2_0_01_1_n_n none (shapeCast _ (transpose S4x8192x4x256 [0, 3, 1, 2] (Host.dotGeneral dot_S4x256x4x256_S4x4x8192x256_S4x4x256x8192_1_3_3_2_02_01 none (shapeCast _ (Host.dotGeneral dot_S4x256x1024_S1024x1024_S4x256x1024_2_0_01_1_n_n none n (shapeCast _ wv shapeCasts_S1x1024x1024_S1024x1024)) shapeCasts_S4x256x1024_S4x256x4x256) (Host.divf p (broadcastInDim S4x4x8192x256 ![0, 1, 2, 3] bcast_S4x4x8192x1_S4x4x8192x256_0_1_2_3 (broadcastInDim S4x4x8192x1 ![0, 1, 2] bcast_S4x4x8192_S4x4x8192x1_0_1_2 (Host.reduceAdd p (constant S_ .f32 0x00000000#32) reducesTo_S4x4x8192x256_S4x4x8192_d3 h_S_))))) transposes_S4x4x256x8192_S4x8192x4x256_0_3_1_2) shapeCasts_S4x8192x4x256_S4x8192x1024) (extf .f32 wo bitsLt_bf16_f32)) (ix3 b s j)
      = attend (fun h d => ∑ r, lin (fun k => n (ix3 b r k)) (fun k j => wv (ix3 0 k j)) (col h d)
          * Ideal.div (p (ix4 b h s r)) (∑ t, p (ix4 b h s t))) (fun k => x (ix3 b s k)) (fun k j => wo (ix2 k j)) j := by
  unfold attend lin heads
  simp only [col_divmod]
  clean_types
  pointwise

/-- The rows after the cross-attention. -/
theorem v59_at (b : Fin 4) (s : Fin 8192) (j : Fin 1024) :
    res_main_v59 V0 (ix3 b s j) = attend (headOf (q V0 b s) (K V0 b) (Vv V0 b)) (aX V0 b s) (aWo V0) j := by
  unfold res_main_v59
  rw [out_at]
  simp only [v50_at, v32_at]
  rfl

/-- The scaled norm of every row of the residual stream, from any array and gains. -/
theorem norm_at (Z : FVec Ideal S4x8192x1024 .f32) (g : FVec Ideal S1024 .f32) (b : Fin 4) (s : Fin 8192) (j : Fin 1024) :
    mulf (mulf Z (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf Z Z) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g)) (ix3 b s j)
      = rms (fun k => Z (ix3 b s k)) (fun k => g (ix1 k)) j := by
  clean_types
  pointwise [rms]
  rfl

/-- The row after the cross-attention. -/
def mid (b : Fin 4) (s : Fin 8192) : Fin 1024 → EReal := attend (headOf (q V0 b s) (K V0 b) (Vv V0 b)) (aX V0 b s) (aWo V0)

/-- The normed rows the feed-forward part reads. -/
theorem v73_at (b : Fin 4) (s : Fin 8192) (j : Fin 1024) : res_main_v73 V0 (ix3 b s j) = rms (mid V0 b s) (aGf V0) j := by
  unfold res_main_v73
  rw [norm_at, funext (v59_at V0 b s)]
  refine congrArg (rms _ · j) (funext fun k => ?_)
  clean_types
  pointwise [aGf]

/-- The products with the gate or the upward matrix, from any normed rows. -/
theorem up_at (H : FVec Ideal S4x8192x1024 .f32) (W : FVec Ideal S1024x2816 .bf16) (b : Fin 4) (s : Fin 8192) (n : Fin 2816) :
    Host.dotGeneral dot_S4x8192x1024_S1024x2816_S4x8192x2816_2_0_01_1_n_n none H (extf .f32 W bitsLt_bf16_f32) (ix3 b s n)
      = lin (fun k => H (ix3 b s k)) (fun k n => W (ix2 k n)) n := by
  clean_types
  pointwise [lin]

/-- The gate's row. -/
theorem v74_at (b : Fin 4) (s : Fin 8192) (n : Fin 2816) :
    res_main_v74 V0 (ix3 b s n) = lin (rms (mid V0 b s) (aGf V0)) (aWg V0) n := by
  unfold res_main_v74
  rw [up_at, funext (v73_at V0 b s)]
  rfl

/-- The downward product added to the residual, from any residual, gate and upward rows. -/
theorem down_at (x : FVec Ideal S4x8192x1024 .f32) (G U : FVec Ideal S4x8192x2816 .f32) (W : FVec Ideal S2816x1024 .bf16) (b : Fin 4) (s : Fin 8192) (j : Fin 1024) :
    addf x (Host.dotGeneral dot_S4x8192x2816_S2816x1024_S4x8192x1024_2_0_01_1_n_n none (mulf (mulf G (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf G))))) U) (extf .f32 W bitsLt_bf16_f32)) (ix3 b s j)
      = x (ix3 b s j) + ∑ n, G (ix3 b s n) * Ideal.logistic (G (ix3 b s n)) * U (ix3 b s n) * W (ix2 n j) := by
  clean_types
  pointwise
  rfl

/-- The row before the last norm. -/
theorem v79_at (b : Fin 4) (s : Fin 8192) (j : Fin 1024) :
    res_main_v79 V0 (ix3 b s j) = ffn (mid V0 b s) (rms (mid V0 b s) (aGf V0)) (aWg V0) (aWu V0) (aWd V0) j := by
  unfold res_main_v79
  rw [down_at, v59_at]
  simp only [v74_at, up_at, v73_at]
  rfl

/-- The reference's result, row by row. -/
theorem result_at (b : Fin 4) (s : Fin 8192) (j : Fin 1024) :
    (mulf (mulf (res_main_v79 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v79 V0) (res_main_v79 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V0 (Proc.devRef .tc main_arg15))))) (ix3 b s j) = outRow (aX V0 b s) (K V0 b) (Vv V0 b) (aGc V0) (aWq V0) (aWo V0) (aGf V0) (aWg V0) (aWu V0) (aWd V0) (aGl V0) j := by
  rw [norm_at, funext (v79_at V0 b s)]
  rfl

end Cert.ReferenceIdeal.Rows
end
-- ==== Proof.Algebraic.lean ====
/- The value claim: from memories that agree on the arguments and meet the precondition, the kernel's program and the
   reference end with equal result arrays. Index by index the kernel's array is `Layer.outRow2` of the arguments
   (Proof/KernelValue.lean), the reference's is `Layer.outRow` (Proof/RefRows.lean), and the two rows are equal
   (Proof/Equation.lean). -/
module

public import proofs.«01_k».proof.Defs
public import proofs.«01_k».proof.Proof.Precondition
public import proofs.«01_k».proof.Proof.KernelValue
public import proofs.«01_k».proof.Proof.KernelRun
public import proofs.«01_k».proof.Proof.RefRows
public import proofs.«01_k».proof.Proof.Gen.Pre_finite
public import proofs.«01_k».proof.Proof.Gen.ReferenceIdeal.Run

@[expose] public section

set_option maxRecDepth 16384

noncomputable section

open Idealize.ShloMosaic Idealize.ShloMosaic.TcCoe Idealize.SL.Sem Idealize.ShloMosaic.StableHlo

namespace Cert.Whole

/-- The kernel's result array, under the precondition, is the reference's row function of the kernel's arguments. -/
theorem kernel_rows (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite m) (c : Dev Cert.KernelIdeal.nD) (b : Fin 4) (s : Fin 8192) (j : Fin 1024) :
    Cert.KernelIdeal.Gen.W4 m ρ c (Proc.devRef .tc Cert.KernelIdeal.main_v14) (ix3 b s j)
      = Layer.outRow (fun k => m ((c.tc : Thread Cert.KernelIdeal.nD Cert.KernelIdeal.τ).loc Cert.KernelIdeal.main_arg0) (ix3 b s k))
          (Cert.KernelIdeal.RunValue.keyRow m c b) (Cert.KernelIdeal.RunValue.valRow m c b)
          (fun k => m ((c.tc : Thread Cert.KernelIdeal.nD Cert.KernelIdeal.τ).loc Cert.KernelIdeal.main_arg5) (ix2 0 k)) (fun k j => m ((c.tc : Thread Cert.KernelIdeal.nD Cert.KernelIdeal.τ).loc Cert.KernelIdeal.main_arg7) (ix2 k j))
          (fun k j => m ((c.tc : Thread Cert.KernelIdeal.nD Cert.KernelIdeal.τ).loc Cert.KernelIdeal.main_arg10) (ix2 k j)) (fun k => m ((c.tc : Thread Cert.KernelIdeal.nD Cert.KernelIdeal.τ).loc Cert.KernelIdeal.main_arg11) (ix2 0 k))
          (fun k n => m ((c.tc : Thread Cert.KernelIdeal.nD Cert.KernelIdeal.τ).loc Cert.KernelIdeal.main_arg12) (ix2 k n)) (fun k n => m ((c.tc : Thread Cert.KernelIdeal.nD Cert.KernelIdeal.τ).loc Cert.KernelIdeal.main_arg13) (ix2 k n))
          (fun n j => m ((c.tc : Thread Cert.KernelIdeal.nD Cert.KernelIdeal.τ).loc Cert.KernelIdeal.main_arg14) (ix2 n j)) (fun k => m ((c.tc : Thread Cert.KernelIdeal.nD Cert.KernelIdeal.τ).loc Cert.KernelIdeal.main_arg15) (ix1 k)) j := by
  obtain ⟨h5, h7, h6, h8⟩ := Cert.Finite.reals _ _ _ _ _ _ _ _ _ _ _ _ _ _ _ _ (hpre c)
  refine (congrFun (Cert.KernelIdeal.RunValue.value m ρ c) (ix3 b s j)).trans ?_
  exact congrFun (Layer.outRow_eq _ _ _ _ _ _ _ _ _ _ _
    (fun r => Layer.lin_real _ _ (Layer.rms_real _ _ fun k => h6 (ix2 0 k)) fun k j => h8 (ix3 0 k j))
    (fun k => h5 (ix2 0 k)) (fun k j => h7 (ix2 k j))) j

/-- Entry `(b, s, j)` of the result, from the argument arrays: `Layer.outRow` of row `s` of batch `b` and of that batch's keys and values. -/
def entry (x : FVec Ideal Cert.KernelIdeal.S4x8192x1024 .f32) (mem : FVec Ideal Cert.KernelIdeal.S4x256x1024 .f32) (gc : FVec Ideal Cert.KernelIdeal.S1x1024 .f32) (gm : FVec Ideal Cert.KernelIdeal.S1x1024 .f32) (wq : FVec Ideal Cert.KernelIdeal.S1024x1024 .bf16) (wk : FVec Ideal Cert.KernelIdeal.S1x1024x1024 .f32) (wv : FVec Ideal Cert.KernelIdeal.S1x1024x1024 .f32) (wo : FVec Ideal Cert.KernelIdeal.S1024x1024 .bf16) (gf : FVec Ideal Cert.KernelIdeal.S1x1024 .f32) (wg : FVec Ideal Cert.KernelIdeal.S1024x2816 .bf16) (wu : FVec Ideal Cert.KernelIdeal.S1024x2816 .bf16) (wd : FVec Ideal Cert.KernelIdeal.S2816x1024 .bf16) (gl : FVec Ideal Cert.KernelIdeal.S1024 .f32)
    (b : Fin 4) (s : Fin 8192) (j : Fin 1024) : EReal :=
  Layer.outRow (fun k => x (ix3 b s k))
    (fun r => Layer.lin (Layer.rms (fun k => mem (ix3 b r k)) (fun k => gm (ix2 0 k))) (fun k j => wk (ix3 0 k j)))
    (fun r => Layer.lin (Layer.rms (fun k => mem (ix3 b r k)) (fun k => gm (ix2 0 k))) (fun k j => wv (ix3 0 k j)))
    (fun k => gc (ix2 0 k)) (fun k j => wq (ix2 k j)) (fun k j => wo (ix2 k j)) (fun k => gf (ix2 0 k))
    (fun k n => wg (ix2 k n)) (fun k n => wu (ix2 k n)) (fun n j => wd (ix2 n j)) (fun k => gl (ix1 k)) j

/-- Equal argument arrays give equal entries. -/
theorem entry_congr {x x' : FVec Ideal Cert.KernelIdeal.S4x8192x1024 .f32} {mem mem' : FVec Ideal Cert.KernelIdeal.S4x256x1024 .f32} {gc gc' : FVec Ideal Cert.KernelIdeal.S1x1024 .f32} {gm gm' : FVec Ideal Cert.KernelIdeal.S1x1024 .f32} {wq wq' : FVec Ideal Cert.KernelIdeal.S1024x1024 .bf16} {wk wk' : FVec Ideal Cert.KernelIdeal.S1x1024x1024 .f32} {wv wv' : FVec Ideal Cert.KernelIdeal.S1x1024x1024 .f32} {wo wo' : FVec Ideal Cert.KernelIdeal.S1024x1024 .bf16} {gf gf' : FVec Ideal Cert.KernelIdeal.S1x1024 .f32} {wg wg' : FVec Ideal Cert.KernelIdeal.S1024x2816 .bf16} {wu wu' : FVec Ideal Cert.KernelIdeal.S1024x2816 .bf16} {wd wd' : FVec Ideal Cert.KernelIdeal.S2816x1024 .bf16} {gl gl' : FVec Ideal Cert.KernelIdeal.S1024 .f32}
    (hx : x = x') (hmem : mem = mem') (hgc : gc = gc') (hgm : gm = gm') (hwq : wq = wq') (hwk : wk = wk') (hwv : wv = wv') (hwo : wo = wo') (hgf : gf = gf') (hwg : wg = wg') (hwu : wu = wu') (hwd : wd = wd') (hgl : gl = gl') (b : Fin 4) (s : Fin 8192) (j : Fin 1024) :
    entry x mem gc gm wq wk wv wo gf wg wu wd gl b s j = entry x' mem' gc' gm' wq' wk' wv' wo' gf' wg' wu' wd' gl' b s j := by
  subst hx hmem hgc hgm hwq hwk hwv hwo hgf hwg hwu hwd hgl
  rfl

/-- The kernel's program and the reference, from arguments that agree, end with the same result array. -/
theorem algebraic : Cert.algebraic_KernelIdeal_ReferenceIdeal_pre_finite := by
  intro m g m' g' hpre hagree
  refine ⟨fun c => Cert.KernelIdeal.Gen.W4 m g c (Proc.devRef .tc Cert.KernelIdeal.main_v14), Cert.KernelIdeal.RunValue.run (F := Ideal) m g, ?_⟩
  refine (θ_run Cert.ReferenceIdeal.defs _ _).mono (fun _ h c => ⟨(h c).1.trans ?_, (h c).2⟩)
    (Cert.ReferenceIdeal.Value.run (F := Ideal) m' g')
  obtain ⟨a0, a1, a2, a3, a4, a5, a6, a7, a8, a9, a10, a11, a12, a13, a14, a15⟩ := hagree c
  funext i
  have hi : i = ix3 (i 0) (i 1) (i 2) := funext fun k => by fin_cases k <;> rfl
  rw [hi]
  exact (Cert.ReferenceIdeal.Rows.result_at (launchContents m' c) (i 0) (i 1) (i 2)).trans
    ((entry_congr a0 a1 a5 a6 a7 a8 a9 a10 a11 a12 a13 a14 a15 (i 0) (i 1) (i 2)).trans (kernel_rows m g hpre c (i 0) (i 1) (i 2)).symm)

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.ReferenceIdeal
public import proofs.«01_k».proof.Proof.Gen.ReferenceIdeal.Run
public import proofs.«01_k».proof.Proof.Gen.Pre_finite
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The named constant: `0x3DB8AA3B` is `(1/16) · (log 2)⁻¹` rounded to f32. -/
theorem preserves : Cert.preserves_Kernel_KernelIdeal :=
  IdealRules.named_const.statement Cert.KernelIdeal.κ "key_scale" .f32 0x3DB8AA3B#32 (((1 / 16) * (Real.log 2)⁻¹ : ℝ) : EReal) rfl

/-- The reference runs, leaves its arguments unchanged and ends with every semaphore counter at zero. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every claim of the certificate. -/
theorem claim : Cert.Claim :=
  ⟨Cert.Kernel.Gen.facts, Cert.KernelIdeal.Gen.facts, Cert.ReferenceIdeal.Gen.facts, Cert.Mixer.Gen.facts, Cert.MixerIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_ref, fun m g _ => frame_ref m g trivial,
    fun m ρ _ => Cert.Mixer.Gen.frame m ρ, fun m ρ _ => Cert.MixerIdeal.Gen.frame m ρ, preserves, Cert.Whole.algebraic, trivial⟩

end Cert.Proof

end
